-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "gate_masked" .f32 0xFF61B1E6#32 ⊥
  ∧ IdealRules.named_const.Statement Cert.KernelIdeal.κ "half_gate_masked" .f32 0xFEE1B1E6#32 ⊥
  ∧ IdealRules.named_const.Statement Cert.KernelIdeal.κ "neg" .f32 0xF149F2CA#32 ⊥

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_qk_finite.lean ====
abbrev S8x4096x10240 : Shape := ⟨3, ![8, 4096, 10240]⟩
abbrev S8x4096x2048 : Shape := ⟨3, ![8, 4096, 2048]⟩
abbrev S_ : Shape := ⟨0, ![]⟩

class Facts : Prop where
  slices_S8x4096x10240_S8x4096x2048_0_0_0 : S8x4096x10240.Slices ![0, 0, 0] S8x4096x2048
  bitsLt_bf16_f32 : FTy.bits .bf16 < FTy.bits .f32
  bcast_S_S8x4096x2048 : S_.BroadcastsInDim S8x4096x2048 (![] : Fin 0 → Fin S8x4096x2048.rank)

variable [Facts]

def fn {F : FTy → Type} [FloatOps F] (main_arg0 : FVec F S8x4096x10240 .bf16) : IVec S8x4096x2048 1 :=
  let main_v0 : FVec F S8x4096x2048 .bf16 := (extractStridedSlice S8x4096x2048 ![0, 0, 0] · slices_S8x4096x10240_S8x4096x2048_0_0_0) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  main_v4
-- ==== Kernel.lean ====
abbrev S8x4096x10240 : Shape := ⟨3, ![8, 4096, 10240]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S8x4096x1024 : Shape := ⟨3, ![8, 4096, 1024]⟩
abbrev S1x4096x128 : Shape := ⟨3, ![1, 4096, 128]⟩
abbrev S4096x256 : Shape := ⟨2, ![4096, 256]⟩
abbrev S16x256x128 : Shape := ⟨3, ![16, 256, 128]⟩
abbrev S16x128 : Shape := ⟨2, ![16, 128]⟩
abbrev S32x128 : Shape := ⟨2, ![32, 128]⟩
abbrev S32x4096 : Shape := ⟨2, ![32, 4096]⟩
abbrev S16x4096 : Shape := ⟨2, ![16, 4096]⟩
abbrev S1x4096 : Shape := ⟨2, ![1, 4096]⟩
abbrev S112x4096 : Shape := ⟨2, ![112, 4096]⟩
abbrev S128x4096 : Shape := ⟨2, ![128, 4096]⟩
abbrev S128x128 : Shape := ⟨2, ![128, 128]⟩
abbrev S256x256 : Shape := ⟨2, ![256, 256]⟩
abbrev S3840x256 : Shape := ⟨2, ![3840, 256]⟩
abbrev S256x3840 : Shape := ⟨2, ![256, 3840]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S3584x256 : Shape := ⟨2, ![3584, 256]⟩
abbrev S256x3584 : Shape := ⟨2, ![256, 3584]⟩
abbrev S3328x256 : Shape := ⟨2, ![3328, 256]⟩
abbrev S256x3328 : Shape := ⟨2, ![256, 3328]⟩
abbrev S3072x256 : Shape := ⟨2, ![3072, 256]⟩
abbrev S256x3072 : Shape := ⟨2, ![256, 3072]⟩
abbrev S2816x256 : Shape := ⟨2, ![2816, 256]⟩
abbrev S256x2816 : Shape := ⟨2, ![256, 2816]⟩
abbrev S2560x256 : Shape := ⟨2, ![2560, 256]⟩
abbrev S256x2560 : Shape := ⟨2, ![256, 2560]⟩
abbrev S2304x256 : Shape := ⟨2, ![2304, 256]⟩
abbrev S256x2304 : Shape := ⟨2, ![256, 2304]⟩
abbrev S2048x256 : Shape := ⟨2, ![2048, 256]⟩
abbrev S256x2048 : Shape := ⟨2, ![256, 2048]⟩
abbrev S1792x256 : Shape := ⟨2, ![1792, 256]⟩
abbrev S256x1792 : Shape := ⟨2, ![256, 1792]⟩
abbrev S1536x256 : Shape := ⟨2, ![1536, 256]⟩
abbrev S256x1536 : Shape := ⟨2, ![256, 1536]⟩
abbrev S1280x256 : Shape := ⟨2, ![1280, 256]⟩
abbrev S256x1280 : Shape := ⟨2, ![256, 1280]⟩
abbrev S1024x256 : Shape := ⟨2, ![1024, 256]⟩
abbrev S256x1024 : Shape := ⟨2, ![256, 1024]⟩
abbrev S768x256 : Shape := ⟨2, ![768, 256]⟩
abbrev S256x768 : Shape := ⟨2, ![256, 768]⟩
abbrev S512x256 : Shape := ⟨2, ![512, 256]⟩
abbrev S256x512 : Shape := ⟨2, ![256, 512]⟩

abbrev nBuf : Space → Nat
  | .hbm => 26
  | .vmem => 15
  | .smem => 0
  | _ => 0

abbrev bufTy : (tb : Table) → Fin (tcTables nBuf tb) → BufTy
  | .hbm, ⟨0, _⟩ => ⟨S8x4096x10240, .bf16⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S4096, .i32⟩
  | .hbm, ⟨10, _⟩ => ⟨S4096, .f32⟩
  | .hbm, ⟨11, _⟩ => ⟨S4096x1, .f32⟩
  | .hbm, ⟨12, _⟩ => ⟨S1x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S_, .f32⟩
  | .hbm, ⟨19, _⟩ => ⟨S4096x96, .f32⟩
  | .hbm, ⟨20, _⟩ => ⟨S_, .f32⟩
  | .hbm, ⟨21, _⟩ => ⟨S4096x96, .f32⟩
  | .hbm, ⟨22, _⟩ => ⟨S4096x128, .f32⟩
  | .hbm, ⟨23, _⟩ => ⟨S4096x16, .f32⟩
  | .hbm, ⟨24, _⟩ => ⟨S4096x128, .f32⟩
  | .hbm, ⟨25, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S4096x128, .f32⟩
  | .local _ .vmem, ⟨9, _⟩ => ⟨S4096x128, .f32⟩
  | .local _ .vmem, ⟨10, _⟩ => ⟨S1x4096x128, .bf16⟩
  | .local _ .vmem, ⟨11, _⟩ => ⟨S1x4096x128, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | _, _ => ⟨S8x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "gate_masked" => some ⊥
  | "half_gate_masked" => some ⊥
  | "neg" => some ⊥
  | "scale" => some (((Real.sqrt 128)⁻¹ * (Real.log 2)⁻¹ : ℝ) : EReal)
  | _ => none
-- ==== ReferenceIdeal.lean ====
abbrev S8x4096x10240 : Shape := ⟨3, ![8, 4096, 10240]⟩
abbrev S8x4096x1024 : Shape := ⟨3, ![8, 4096, 1024]⟩
abbrev S4096 : Shape := ⟨1, ![4096]⟩
abbrev S8x4096x8x128 : Shape := ⟨4, ![8, 4096, 8, 128]⟩
abbrev S8x8x4096x128 : Shape := ⟨4, ![8, 8, 4096, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S8x8x4096x32 : Shape := ⟨4, ![8, 8, 4096, 32]⟩
abbrev S8x8x4096x16 : Shape := ⟨4, ![8, 8, 4096, 16]⟩
abbrev S1x1x4096x16 : Shape := ⟨4, ![1, 1, 4096, 16]⟩
abbrev S8x8x4096x96 : Shape := ⟨4, ![8, 8, 4096, 96]⟩
abbrev S8x8x16x256x128 : Shape := ⟨5, ![8, 8, 16, 256, 128]⟩
abbrev S8x8x16x128 : Shape := ⟨4, ![8, 8, 16, 128]⟩
abbrev S8x8x16x256x16 : Shape := ⟨5, ![8, 8, 16, 256, 16]⟩
abbrev S16x1 : Shape := ⟨2, ![16, 1]⟩
abbrev S16x16 : Shape := ⟨2, ![16, 16]⟩
abbrev S1x1x16x1x16 : Shape := ⟨5, ![1, 1, 16, 1, 16]⟩
abbrev S8x8x16x256x3 : Shape := ⟨5, ![8, 8, 16, 256, 3]⟩
abbrev S3 : Shape := ⟨1, ![3]⟩
abbrev S1x3 : Shape := ⟨2, ![1, 3]⟩
abbrev S16x3 : Shape := ⟨2, ![16, 3]⟩
abbrev S8x8x16x256x3x1 : Shape := ⟨6, ![8, 8, 16, 256, 3, 1]⟩
abbrev S8x8x16x256x3x256x128 : Shape := ⟨7, ![8, 8, 16, 256, 3, 256, 128]⟩
abbrev S8x8x16x256x3x256 : Shape := ⟨6, ![8, 8, 16, 256, 3, 256]⟩
abbrev S1x1x16x1x3x1 : Shape := ⟨6, ![1, 1, 16, 1, 3, 1]⟩
abbrev S8x8x16x256x256 : Shape := ⟨5, ![8, 8, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1x1x256x256 : Shape := ⟨5, ![1, 1, 1, 256, 256]⟩
abbrev S8x8x16x256x768 : Shape := ⟨5, ![8, 8, 16, 256, 768]⟩
abbrev S8x8x16x256x1024 : Shape := ⟨5, ![8, 8, 16, 256, 1024]⟩
abbrev S8x8x16x256 : Shape := ⟨4, ![8, 8, 16, 256]⟩
abbrev S8x8x16x256x1 : Shape := ⟨5, ![8, 8, 16, 256, 1]⟩

abbrev nBuf : Space → Nat
  | .hbm => 196
  | .vmem => 0
  | .smem => 0
  | _ => 0

abbrev hbmTy0_0 (i : Nat) : BufTy := match i % 128 with
  | 0 => ⟨S8x4096x10240, .bf16⟩
  | 1 => ⟨S8x4096x10240, .f32⟩
  | 2 => ⟨S8x4096x1024, .f32⟩
  | 3 => ⟨S8x4096x1024, .f32⟩
  | 4 => ⟨S8x4096x1024, .f32⟩
  | 5 => ⟨S8x4096x1024, .f32⟩
  | 6 => ⟨S4096, .i32⟩
  | 7 => ⟨S8x4096x8x128, .f32⟩
  | 8 => ⟨S8x8x4096x128, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S4096, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S8x8x4096x32, .f32⟩
  | 26 => ⟨S8x8x4096x16, .f32⟩
  | 27 => ⟨S8x8x4096x16, .f32⟩
  | 28 => ⟨S1x1x4096x16, .f32⟩
  | 29 => ⟨S8x8x4096x16, .f32⟩
  | 30 => ⟨S8x8x4096x16, .f32⟩
  | 31 => ⟨S1x1x4096x16, .f32⟩
  | 32 => ⟨S8x8x4096x16, .f32⟩
  | 33 => ⟨S8x8x4096x16, .f32⟩
  | 34 => ⟨S8x8x4096x16, .f32⟩
  | 35 => ⟨S1x1x4096x16, .f32⟩
  | 36 => ⟨S8x8x4096x16, .f32⟩
  | 37 => ⟨S8x8x4096x16, .f32⟩
  | 38 => ⟨S1x1x4096x16, .f32⟩
  | 39 => ⟨S8x8x4096x16, .f32⟩
  | 40 => ⟨S8x8x4096x16, .f32⟩
  | 41 => ⟨S8x8x4096x16, .f32⟩
  | 42 => ⟨S8x8x4096x32, .f32⟩
  | 43 => ⟨S8x8x4096x96, .f32⟩
  | 44 => ⟨S8x8x4096x128, .f32⟩
  | 45 => ⟨S8x8x16x256x128, .f32⟩
  | 46 => ⟨S8x4096x8x128, .f32⟩
  | 47 => ⟨S8x8x4096x128, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S4096, .f32⟩
  | 57 => ⟨S4096x1, .f32⟩
  | 58 => ⟨S1x16, .f32⟩
  | 59 => ⟨S4096x16, .f32⟩
  | 60 => ⟨S4096x16, .f32⟩
  | 61 => ⟨S4096x16, .f32⟩
  | 62 => ⟨S4096x16, .f32⟩
  | 63 => ⟨S4096x16, .f32⟩
  | 64 => ⟨S8x8x4096x32, .f32⟩
  | 65 => ⟨S8x8x4096x16, .f32⟩
  | 66 => ⟨S8x8x4096x16, .f32⟩
  | 67 => ⟨S1x1x4096x16, .f32⟩
  | 68 => ⟨S8x8x4096x16, .f32⟩
  | 69 => ⟨S8x8x4096x16, .f32⟩
  | 70 => ⟨S1x1x4096x16, .f32⟩
  | 71 => ⟨S8x8x4096x16, .f32⟩
  | 72 => ⟨S8x8x4096x16, .f32⟩
  | 73 => ⟨S8x8x4096x16, .f32⟩
  | 74 => ⟨S1x1x4096x16, .f32⟩
  | 75 => ⟨S8x8x4096x16, .f32⟩
  | 76 => ⟨S8x8x4096x16, .f32⟩
  | 77 => ⟨S1x1x4096x16, .f32⟩
  | 78 => ⟨S8x8x4096x16, .f32⟩
  | 79 => ⟨S8x8x4096x16, .f32⟩
  | 80 => ⟨S8x8x4096x16, .f32⟩
  | 81 => ⟨S8x8x4096x32, .f32⟩
  | 82 => ⟨S8x8x4096x96, .f32⟩
  | 83 => ⟨S8x8x4096x128, .f32⟩
  | 84 => ⟨S8x8x16x256x128, .f32⟩
  | 85 => ⟨S8x4096x8x128, .f32⟩
  | 86 => ⟨S8x8x4096x128, .f32⟩
  | 87 => ⟨S8x8x16x256x128, .f32⟩
  | 88 => ⟨S_, .f32⟩
  | 89 => ⟨S_, .f32⟩
  | 90 => ⟨S_, .f32⟩
  | 91 => ⟨S_, .f32⟩
  | 92 => ⟨S_, .f32⟩
  | 93 => ⟨S8x8x16x128, .f32⟩
  | 94 => ⟨S_, .f32⟩
  | 95 => ⟨S8x8x16x128, .f32⟩
  | 96 => ⟨S8x8x16x128, .f32⟩
  | 97 => ⟨S16, .i32⟩
  | 98 => ⟨S8x8x16x256x16, .f32⟩
  | 99 => ⟨S1x16, .i32⟩
  | 100 => ⟨S16x1, .i32⟩
  | 101 => ⟨S16x16, .i32⟩
  | 102 => ⟨S16x16, .i32⟩
  | 103 => ⟨S16x16, .i1⟩
  | 104 => ⟨S1x1x16x1x16, .i1⟩
  | 105 => ⟨S_, .f32⟩
  | 106 => ⟨S_, .f32⟩
  | 107 => ⟨S8x8x16x256x16, .i1⟩
  | 108 => ⟨S8x8x16x256x16, .f32⟩
  | 109 => ⟨S8x8x16x256x16, .f32⟩
  | 110 => ⟨S8x8x16x256x3, .f32⟩
  | 111 => ⟨S8x8x16x256x3, .i32⟩
  | 112 => ⟨S3, .i32⟩
  | 113 => ⟨S1x3, .i32⟩
  | 114 => ⟨S16x1, .i32⟩
  | 115 => ⟨S16x3, .i32⟩
  | 116 => ⟨S16x3, .i32⟩
  | 117 => ⟨S16x3, .i1⟩
  | 118 => ⟨S_, .i32⟩
  | 119 => ⟨S8x8x16x256x3, .i32⟩
  | 120 => ⟨S8x8x16x256x3, .i1⟩
  | 121 => ⟨S_, .i32⟩
  | 122 => ⟨S8x8x16x256x3, .i32⟩
  | 123 => ⟨S8x8x16x256x3, .i32⟩
  | 124 => ⟨S8x8x16x256x3, .i32⟩
  | 125 => ⟨S8x8x16x256x3x1, .i32⟩
  | 126 => ⟨S8x8x16x256x3x256x128, .f32⟩
  | 127 => ⟨S_, .i32⟩
  | _ => ⟨S8x4096x10240, .bf16⟩

abbrev hbmTy0_1 (i : Nat) : BufTy := match i % 128 with
  | 0 => ⟨S8x8x16x256x3, .i32⟩
  | 1 => ⟨S8x8x16x256x3, .i1⟩
  | 2 => ⟨S_, .i32⟩
  | 3 => ⟨S8x8x16x256x3, .i32⟩
  | 4 => ⟨S8x8x16x256x3, .i32⟩
  | 5 => ⟨S8x8x16x256x3, .i32⟩
  | 6 => ⟨S8x8x16x256x3x1, .i32⟩
  | 7 => ⟨S8x8x16x256x3x256x128, .f32⟩
  | 8 => ⟨S8x8x16x256x3x256, .f32⟩
  | 9 => ⟨S8x8x16x256x3x256, .f32⟩
  | 10 => ⟨S8x8x16x256x3x256, .f32⟩
  | 11 => ⟨S1x1x16x1x3x1, .i1⟩
  | 12 => ⟨S_, .f32⟩
  | 13 => ⟨S_, .f32⟩
  | 14 => ⟨S8x8x16x256x3x256, .i1⟩
  | 15 => ⟨S8x8x16x256x3x256, .f32⟩
  | 16 => ⟨S8x8x16x256x3x256, .f32⟩
  | 17 => ⟨S8x8x16x256x256, .f32⟩
  | 18 => ⟨S8x8x16x256x256, .f32⟩
  | 19 => ⟨S8x8x16x256x256, .f32⟩
  | 20 => ⟨S256, .i32⟩
  | 21 => ⟨S1x256, .i32⟩
  | 22 => ⟨S256x1, .i32⟩
  | 23 => ⟨S256x256, .i32⟩
  | 24 => ⟨S256x256, .i32⟩
  | 25 => ⟨S256x256, .i1⟩
  | 26 => ⟨S1x1x1x256x256, .i1⟩
  | 27 => ⟨S_, .f32⟩
  | 28 => ⟨S_, .f32⟩
  | 29 => ⟨S8x8x16x256x256, .i1⟩
  | 30 => ⟨S8x8x16x256x256, .f32⟩
  | 31 => ⟨S8x8x16x256x256, .f32⟩
  | 32 => ⟨S8x8x16x256x768, .f32⟩
  | 33 => ⟨S8x8x16x256x1024, .f32⟩
  | 34 => ⟨S_, .f32⟩
  | 35 => ⟨S8x8x16x256, .f32⟩
  | 36 => ⟨S_, .f32⟩
  | 37 => ⟨S8x8x16x256, .f32⟩
  | 38 => ⟨S8x8x16x256, .f32⟩
  | 39 => ⟨S8x8x16x256x1, .f32⟩
  | 40 => ⟨S8x8x16x256x1024, .f32⟩
  | 41 => ⟨S8x8x16x256x1024, .f32⟩
  | 42 => ⟨S8x8x16x256x1024, .f32⟩
  | 43 => ⟨S_, .f32⟩
  | 44 => ⟨S8x8x16x256, .f32⟩
  | 45 => ⟨S8x8x16x256x1, .f32⟩
  | 46 => ⟨S8x8x16x256x1024, .f32⟩
  | 47 => ⟨S8x8x16x256x1024, .f32⟩
  | 48 => ⟨S8x8x16x256x768, .f32⟩
  | 49 => ⟨S8x8x16x256x3x256, .f32⟩
  | 50 => ⟨S8x8x16x256x256, .f32⟩
  | 51 => ⟨S8x8x16x256x128, .f32⟩
  | 52 => ⟨S8x8x16x256x128, .f32⟩
  | 53 => ⟨S8x8x16x256x128, .f32⟩
  | 54 => ⟨S8x8x4096x128, .f32⟩
  | 55 => ⟨S8x4096x8x128, .f32⟩
  | 56 => ⟨S8x4096x1024, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S_, .f32⟩
  | 63 => ⟨S8x4096x1024, .f32⟩
  | 64 => ⟨S8x4096x1024, .f32⟩
  | 65 => ⟨S8x4096x1024, .f32⟩
  | 66 => ⟨S8x4096x1024, .f32⟩
  | 67 => ⟨S8x4096x1024, .bf16⟩
  | _ => ⟨S8x4096x10240, .bf16⟩

abbrev hbmTy (i : Nat) : BufTy := match i / 128 with
  | 0 => hbmTy0_0 i
  | 1 => hbmTy0_1 i
  | _ => ⟨S8x4096x10240, .bf16⟩

abbrev bufTy : (tb : Table) → Fin (tcTables nBuf tb) → BufTy
  | .hbm, ⟨i, _⟩ => hbmTy i
  | _, _ => ⟨S8x4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_1 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_cst_3 : Ref sig .tc := ⟨.hbm, 88, rfl⟩
abbrev main_v83 : Ref sig .tc := ⟨.hbm, 89, rfl⟩
abbrev main_cst_4 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_cst_6 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst_7 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v96 : Ref sig .tc := ⟨.hbm, 109, rfl⟩
abbrev main_values : Ref sig .tc := ⟨.hbm, 110, rfl⟩
abbrev main_indices : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_c : Ref sig .tc := ⟨.hbm, 118, rfl⟩
abbrev main_v103 : Ref sig .tc := ⟨.hbm, 119, rfl⟩
abbrev main_v104 : Ref sig .tc := ⟨.hbm, 120, rfl⟩
abbrev main_c_8 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c_9 : Ref sig .tc := ⟨.hbm, 127, rfl⟩
abbrev main_v110 : Ref sig .tc := ⟨.hbm, 128, rfl⟩
abbrev main_v111 : Ref sig .tc := ⟨.hbm, 129, rfl⟩
abbrev main_c_10 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_12 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_13 : Ref sig .tc := ⟨.hbm, 162, rfl⟩
abbrev main_v135 : Ref sig .tc := ⟨.hbm, 163, rfl⟩
abbrev main_cst_14 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_15 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_call3_v0 : Ref sig .tc := ⟨.hbm, 185, rfl⟩
abbrev main_call3_v1 : Ref sig .tc := ⟨.hbm, 186, rfl⟩
abbrev main_call3_cst : Ref sig .tc := ⟨.hbm, 187, rfl⟩
abbrev main_call3_v2 : Ref sig .tc := ⟨.hbm, 188, rfl⟩
abbrev main_call3_v3 : Ref sig .tc := ⟨.hbm, 189, rfl⟩
abbrev main_call3_cst_0 : Ref sig .tc := ⟨.hbm, 190, rfl⟩
abbrev main_call3_v4 : Ref sig .tc := ⟨.hbm, 191, rfl⟩
abbrev main_call3_v5 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x10240 : Shape := ⟨3, ![8, 4096, 10240]⟩
abbrev S1024x1024 : Shape := ⟨2, ![1024, 1024]⟩
abbrev S1024 : Shape := ⟨1, ![1024]⟩
abbrev S32768x1024 : Shape := ⟨2, ![32768, 1024]⟩
abbrev S32768x10240 : Shape := ⟨2, ![32768, 10240]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x10240, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S32768x1024, .bf16⟩
  | .hbm, ⟨10, _⟩ => ⟨S32768x1024, .bf16⟩
  | .hbm, ⟨11, _⟩ => ⟨S32768x10240, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S8x4096x10240 : Shape := ⟨3, ![8, 4096, 10240]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x10240, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8x4096x1024, .bf16⟩
  | .hbm, ⟨9, _⟩ => ⟨S8x4096x1024, .f32⟩
  | .hbm, ⟨10, _⟩ => ⟨S8x4096x1024, .bf16⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x10256 : Shape := ⟨2, ![1024, 10256]⟩
abbrev S1024x8192 : Shape := ⟨2, ![1024, 8192]⟩
abbrev S1024x2048 : Shape := ⟨2, ![1024, 2048]⟩
abbrev S1024x10240 : Shape := ⟨2, ![1024, 10240]⟩
abbrev S1024x16 : Shape := ⟨2, ![1024, 16]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S32768x10240 : Shape := ⟨2, ![32768, 10240]⟩
abbrev S32768x128 : Shape := ⟨2, ![32768, 128]⟩
abbrev S2048x1024 : Shape := ⟨2, ![2048, 1024]⟩
abbrev S1024x1024 : Shape := ⟨2, ![1024, 1024]⟩
abbrev S2048x128 : Shape := ⟨2, ![2048, 128]⟩
abbrev S2048x1 : Shape := ⟨2, ![2048, 1]⟩
abbrev S2048 : Shape := ⟨1, ![2048]⟩

abbrev nBuf : Space → Nat
  | .hbm => 16
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x10256, .f32⟩
  | .hbm, ⟨3, _⟩ => ⟨S1024x8192, .f32⟩
  | .hbm, ⟨4, _⟩ => ⟨S1024x2048, .f32⟩
  | .hbm, ⟨5, _⟩ => ⟨S1024x10240, .f32⟩
  | .hbm, ⟨6, _⟩ => ⟨S1024x10240, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S32768x1024, .f32⟩
  | .hbm, ⟨13, _⟩ => ⟨S1x1024, .f32⟩
  | .hbm, ⟨14, _⟩ => ⟨S32768x10240, .bf16⟩
  | .hbm, ⟨15, _⟩ => ⟨S32768x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | .local _ .vmem, ⟨11, _⟩ => ⟨S2048x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8x4096x1024 : Shape := ⟨3, ![8, 4096, 1024]⟩
abbrev S1024 : Shape := ⟨1, ![1024]⟩
abbrev S1024x10256 : Shape := ⟨2, ![1024, 10256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x10256 : Shape := ⟨3, ![8, 4096, 10256]⟩
abbrev S8x4096x8192 : Shape := ⟨3, ![8, 4096, 8192]⟩
abbrev S8x4096x2048 : Shape := ⟨3, ![8, 4096, 2048]⟩
abbrev S8x4096x10240 : Shape := ⟨3, ![8, 4096, 10240]⟩
abbrev S8x4096x16 : Shape := ⟨3, ![8, 4096, 16]⟩
abbrev S8x4096x128 : Shape := ⟨3, ![8, 4096, 128]⟩
abbrev S32768x10240 : Shape := ⟨2, ![32768, 10240]⟩
abbrev S32768x128 : Shape := ⟨2, ![32768, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x10256, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x10256, .f32⟩
  | .hbm, ⟨20, _⟩ => ⟨S8x4096x8192, .f32⟩
  | .hbm, ⟨21, _⟩ => ⟨S8x4096x2048, .f32⟩
  | .hbm, ⟨22, _⟩ => ⟨S8x4096x10240, .f32⟩
  | .hbm, ⟨23, _⟩ => ⟨S8x4096x16, .f32⟩
  | .hbm, ⟨24, _⟩ => ⟨S_, .i32⟩
  | .hbm, ⟨25, _⟩ => ⟨S_, .f32⟩
  | .hbm, ⟨26, _⟩ => ⟨S8x4096x128, .f32⟩
  | .hbm, ⟨27, _⟩ => ⟨S32768x10240, .f32⟩
  | .hbm, ⟨28, _⟩ => ⟨S32768x10240, .bf16⟩
  | .hbm, ⟨29, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Words.lean ====
/-
  Small index words as the natural numbers that they hold, and the constants of the kernel and of the reference as
  extended reals.
-/
module
public import Idealize.ShloMosaic.Lib.Pointwise

@[expose] public section

namespace Cert.Words

open Idealize.ShloMosaic

theorem toInt_small (a : ℕ) (ha : a < 2147483648) : (BitVec.ofNat 32 a).toInt = (a : ℤ) := by
  rw [BitVec.toInt_eq_toNat_of_lt (by rw [BitVec.toNat_ofNat, Nat.mod_eq_of_lt (by omega)]; omega),
    BitVec.toNat_ofNat, Nat.mod_eq_of_lt (by omega)]

/-- `≤` of two small words is `≤` of their numbers. -/
theorem sle_small (a b : ℕ) (ha : a < 2147483648) (hb : b < 2147483648) :
    IntOp.cmpi .sle (BitVec.ofNat 32 a) (BitVec.ofNat 32 b) = BitVec.ofBool (decide (a ≤ b)) := by
  unfold IntOp.cmpi
  simp only [BitVec.sle_eq_decide, toInt_small a ha, toInt_small b hb, Nat.cast_le]

/-- `<` of two small words is `<` of their numbers. -/
theorem slt_small (a b : ℕ) (ha : a < 2147483648) (hb : b < 2147483648) :
    IntOp.cmpi .slt (BitVec.ofNat 32 a) (BitVec.ofNat 32 b) = BitVec.ofBool (decide (a < b)) := by
  unfold IntOp.cmpi
  simp only [BitVec.slt_eq_decide, toInt_small a ha, toInt_small b hb, Nat.cast_lt]

/-- `≥` of two small words is `≥` of their numbers. -/
theorem sge_small (a b : ℕ) (ha : a < 2147483648) (hb : b < 2147483648) :
    IntOp.cmpi .sge (BitVec.ofNat 32 a) (BitVec.ofNat 32 b) = BitVec.ofBool (decide (b ≤ a)) := by
  unfold IntOp.cmpi
  simp only [BitVec.sle_eq_decide, toInt_small a ha, toInt_small b hb, Nat.cast_le]

/-- Equality of two small words is equality of their numbers. -/
theorem eq_small (a b : ℕ) (ha : a < 2147483648) (hb : b < 2147483648) :
    IntOp.cmpi .eq (BitVec.ofNat 32 a) (BitVec.ofNat 32 b) = BitVec.ofBool (decide (a = b)) := by
  unfold IntOp.cmpi
  have : (BitVec.ofNat 32 a == BitVec.ofNat 32 b) = decide (a = b) := by
    rw [beq_eq_decide]
    refine decide_eq_decide.mpr ⟨fun h => ?_, fun h => h ▸ rfl⟩
    have := congrArg BitVec.toInt h
    rw [toInt_small a ha, toInt_small b hb] at this
    exact_mod_cast this
  simp only [this]

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_128 : Ideal.ofBits .f32 0x43000000#32 = ((128 : ℝ) : EReal) := by
  simp [Ideal.ofBits, Ideal.ieee]; norm_cast; norm_num
theorem ofBits_256 : Ideal.ofBits .f32 0x43800000#32 = ((256 : ℝ) : EReal) := by
  simp [Ideal.ofBits, Ideal.ieee]; norm_cast; norm_num
theorem ofBits_half : Ideal.ofBits .f32 0x3F000000#32 = ((1 / 2 : ℝ) : EReal) := by
  simp [Ideal.ofBits, Ideal.ieee]; norm_cast; norm_num
theorem ofBits_one : Ideal.ofBits .f32 0x3F800000#32 = 1 := Ideal.ofBits_one_f32

end Cert.Words
-- ==== Proof.Attn.lean ====
/-
  Softmax weights over scores that are real where a key is allowed and −∞ where it is not, on the extended reals.
-/
module
public import Idealize.ShloMosaic.PureOps.Ideal.Laws

@[expose] public section

namespace Cert.Attn

open Idealize.ShloMosaic
open scoped BigOperators

/-- A real that is not negative pulls out of a sum of extended reals on the right. -/
theorem sum_mul_coe {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of real numbers, taken in the extended reals, is their real sum. -/
theorem coe_sum {ι : Type*} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

variable {ι κ : Type*} [Fintype ι] [Fintype κ]

open Classical in
/-- The weight of a key before normalisation: the exponential of its score, or 0 for a key that is not allowed. -/
noncomputable def wgt (A : ι → Prop) (r : ι → ℝ) (j : ι) : ℝ := if A j then Real.exp (r j) else 0

/-- The softmax-weighted sum of the values over the allowed keys. -/
noncomputable def attn (A : ι → Prop) (r : ι → ℝ) (v : ι → EReal) : EReal :=
  ∑ j, ((wgt A r j / ∑ l, wgt A r l : ℝ) : EReal) * v j

open Classical in
/-- A masked score: real where the key is allowed, −∞ elsewhere. -/
noncomputable def score (A : ι → Prop) (r : ι → ℝ) (j : ι) : EReal := if A j then (r j : EReal) else ⊥

theorem wgt_nonneg (A : ι → Prop) (r : ι → ℝ) (j : ι) : 0 ≤ wgt A r j := by
  unfold wgt; split
  · exact (Real.exp_pos _).le
  · exact le_rfl

theorem sum_wgt_pos (A : ι → Prop) (r : ι → ℝ) (h : ∃ j, A j) : 0 < ∑ j, wgt A r j := by
  obtain ⟨j, hj⟩ := h
  refine Finset.sum_pos' (fun l _ => wgt_nonneg A r l) ⟨j, Finset.mem_univ j, ?_⟩
  unfold wgt; rw [if_pos hj]; exact Real.exp_pos _

/-- The greatest masked score is real when some key is allowed. -/
theorem fold_max_real (A : ι → Prop) (r : ι → ℝ) (h : ∃ j, A j) :
    ∃ M : ℝ, Finset.univ.fold max ⊥ (score A r) = (M : EReal) := by
  have hs : Finset.univ.fold max ⊥ (score A r) = Finset.univ.sup (score A r) := rfl
  rw [hs]
  obtain ⟨j, hj⟩ := h
  obtain ⟨l, -, hl⟩ := Finset.exists_mem_eq_sup Finset.univ ⟨j, Finset.mem_univ j⟩ (score A r)
  rw [hl]
  by_cases hA : A l
  · exact ⟨r l, by unfold score; rw [if_pos hA]⟩
  · exfalso
    have h1 : score A r j ≤ score A r l := hl ▸ Finset.le_sup (Finset.mem_univ j)
    unfold score at h1
    rw [if_pos hj, if_neg hA] at h1
    exact absurd (le_bot_iff.mp h1) (EReal.coe_ne_bot _)

/-- An exponential of a masked score less a real is the weight scaled by a positive real. -/
theorem exp_score_sub (A : ι → Prop) (r : ι → ℝ) (M : ℝ) (j : ι) :
    Ideal.exp (score A r j - (M : EReal)) = ((wgt A r j * Real.exp (-M) : ℝ) : EReal) := by
  unfold score wgt
  split
  · rw [← EReal.coe_sub, Ideal.exp_coe, sub_eq_add_neg, Real.exp_add]
  · rw [EReal.bot_sub, Ideal.exp_bot, zero_mul]; rfl

/-- The same with base 2 and scores divided by `log 2`. -/
theorem exp2_score_sub (A : ι → Prop) (r : ι → ℝ) (M : ℝ) (j : ι) :
    Ideal.exp2 (score A (fun l => r l * (Real.log 2)⁻¹) j - (M : EReal))
      = ((wgt A r j * Real.rpow 2 (-M) : ℝ) : EReal) := by
  unfold score wgt
  split
  · rw [← EReal.coe_sub, Ideal.exp2_coe]
    congr 1
    have h2 : (0 : ℝ) < 2 := by norm_num
    show (2 : ℝ) ^ (r j * (Real.log 2)⁻¹ - M) = Real.exp (r j) * (2 : ℝ) ^ (-M)
    rw [sub_eq_add_neg, Real.rpow_add h2, Real.rpow_def_of_pos h2]
    congr 2
    have hl : Real.log 2 ≠ 0 := (Real.log_pos (by norm_num)).ne'
    field_simp
  · rw [EReal.bot_sub, Ideal.exp2_bot, zero_mul]; rfl

/-- The kernel's order of work: weighted values summed first and divided by the sum of the weights at the end. -/
theorem attn_of_scaled (A : ι → Prop) (r : ι → ℝ) (v : ι → EReal) (h : ∃ j, A j) (K : ℝ) (hK : 0 < K) :
    (∑ j, ((wgt A r j * K : ℝ) : EReal) * v j) * Ideal.div 1 (∑ j, ((wgt A r j * K : ℝ) : EReal) * 1)
      = attn A r v := by
  have hZ := sum_wgt_pos A r h
  simp only [mul_one]
  rw [coe_sum, ← Finset.sum_mul]
  have hne : (∑ j, wgt A r j) * K ≠ 0 := (mul_pos hZ hK).ne'
  rw [show (1 : EReal) = ((1 : ℝ) : EReal) from rfl, Ideal.div_coe hne, ← EReal.coe_mul, one_mul,
    sum_mul_coe _ _ _ (by positivity)]
  unfold attn
  refine Finset.sum_congr rfl fun j _ => ?_
  rw [mul_comm (((wgt A r j * K : ℝ) : EReal)) (v j), mul_assoc, ← EReal.coe_mul, mul_comm]
  congr 2
  field_simp

/-- The textbook order of work: each weight divided by the sum of the weights. -/
theorem div_scaled (A : ι → Prop) (r : ι → ℝ) (h : ∃ j, A j) (K : ℝ) (hK : 0 < K) (j : ι) :
    Ideal.div ((wgt A r j * K : ℝ) : EReal) (∑ l, ((wgt A r l * K : ℝ) : EReal))
      = ((wgt A r j / ∑ l, wgt A r l : ℝ) : EReal) := by
  have hZ := sum_wgt_pos A r h
  rw [coe_sum, ← Finset.sum_mul, Ideal.div_coe (mul_pos hZ hK).ne', ← EReal.coe_mul]
  congr 1
  field_simp

/-- The weighted sum does not depend on how the keys are listed: a listing `f` that hits each allowed key exactly once
    among its own allowed positions gives the same sum. -/
theorem attn_reindex (f : ι → κ) (A : ι → Prop) (B : κ → Prop) (hinj : ∀ i j, A i → A j → f i = f j → i = j)
    (hA : ∀ i, A i → B (f i)) (hsurj : ∀ k, B k → ∃ i, A i ∧ f i = k) (r : κ → ℝ) (v : κ → EReal) :
    attn A (fun i => r (f i)) (fun i => v (f i)) = attn B r v := by
  classical
  have key : ∀ {M : Type} [AddCommMonoid M] (F : κ → M) (hF : ∀ k, ¬ B k → F k = 0) ,
      (∑ i, if A i then F (f i) else 0) = ∑ k, F k := by
    intro M _ F hF
    rw [← Finset.sum_filter]
    have : ∑ k, F k = ∑ k ∈ Finset.univ.filter B, F k :=
      (Finset.sum_filter_of_ne fun k _ hk => by by_contra hB; exact hk (hF k hB)).symm
    rw [this]
    refine Finset.sum_bij (fun i _ => f i) ?_ ?_ ?_ ?_
    · intro i hi; simp only [Finset.mem_filter, Finset.mem_univ, true_and] at hi ⊢; exact hA i hi
    · intro i hi j hj h
      simp only [Finset.mem_filter, Finset.mem_univ, true_and] at hi hj
      exact hinj i j hi hj h
    · intro k hk
      simp only [Finset.mem_filter, Finset.mem_univ, true_and] at hk
      obtain ⟨i, hi, e⟩ := hsurj k hk
      exact ⟨i, by simp [hi], e⟩
    · intro i _; rfl
  have hw : ∀ i, wgt A (fun i => r (f i)) i = if A i then wgt B r (f i) else 0 := by
    intro i
    unfold wgt
    by_cases h : A i
    · rw [if_pos h, if_pos h, if_pos (hA i h)]
    · rw [if_neg h, if_neg h]
  have hwB : ∀ k, ¬ B k → wgt B r k = 0 := fun k h => by unfold wgt; rw [if_neg h]
  have hZ : ∑ i, wgt A (fun i => r (f i)) i = ∑ k, wgt B r k := by
    simp only [hw]; exact key (wgt B r) hwB
  unfold attn
  rw [hZ, ← key (fun k => ((wgt B r k / ∑ l, wgt B r l : ℝ) : EReal) * v k) fun k h => by simp [hwB k h]]
  refine Finset.sum_congr rfl fun i _ => ?_
  rw [hw]
  split <;> simp

end Cert.Attn
-- ==== Proof.Sel.lean ====
/-
  The three best entries of a row, ties to the lower position: by repeated picking of the greatest entry, and by a stable
  sort that puts greater entries first.
-/
module
public import Idealize.ShloMosaic.PureOps.Ideal.Laws
public import Idealize.ShloMosaic.Lib.SortPrefix

@[expose] public section

namespace Cert.Sel

open Idealize.ShloMosaic
open scoped BigOperators

variable {N : ℕ}

/-- `a` comes before `b`: it is greater, or equal and at a lower position. -/
def bef (g : Fin N → EReal) (a b : Fin N) : Prop := g b < g a ∨ (g a = g b ∧ a < b)

theorem bef_irrefl (g : Fin N → EReal) (a : Fin N) : ¬ bef g a a := by
  rintro (h | ⟨-, h⟩) <;> exact lt_irrefl _ h

theorem bef_trans (g : Fin N → EReal) {a b c : Fin N} (h₁ : bef g a b) (h₂ : bef g b c) : bef g a c := by
  rcases h₁ with h₁ | ⟨e₁, h₁⟩ <;> rcases h₂ with h₂ | ⟨e₂, h₂⟩
  · exact Or.inl (h₂.trans h₁)
  · exact Or.inl (e₂ ▸ h₁)
  · exact Or.inl (e₁ ▸ h₂)
  · exact Or.inr ⟨e₁.trans e₂, h₁.trans h₂⟩

theorem bef_total (g : Fin N → EReal) {a b : Fin N} (h : a ≠ b) : bef g a b ∨ bef g b a := by
  rcases lt_trichotomy (g a) (g b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open Classical in
/-- How many entries come before entry `m`. -/
noncomputable def rank (g : Fin N → EReal) (m : Fin N) : ℕ := (Finset.univ.filter fun l => bef g l m).card

theorem rank_lt_of_bef (g : Fin N → EReal) {a b : Fin N} (h : bef g a b) : rank g a < rank g b := by
  classical
  refine Finset.card_lt_card ⟨fun l hl => ?_, fun hsub => ?_⟩
  · simp only [Finset.mem_filter, Finset.mem_univ, true_and] at hl ⊢
    exact bef_trans g hl h
  · have := hsub (show a ∈ _ by simpa using h)
    simp only [Finset.mem_filter, Finset.mem_univ, true_and] at this
    exact bef_irrefl g a this

theorem rank_inj (g : Fin N → EReal) {a b : Fin N} (h : rank g a = rank g b) : a = b := by
  by_contra hne
  rcases bef_total g hne with h1 | h1
  · exact absurd h (rank_lt_of_bef g h1).ne
  · exact absurd h (rank_lt_of_bef g h1).ne'

theorem bef_of_rank_lt (g : Fin N → EReal) {a b : Fin N} (h : rank g a < rank g b) : bef g a b := by
  by_contra hn
  by_cases e : a = b
  · subst e; exact lt_irrefl _ h
  · rcases bef_total g e with h1 | h1
    · exact hn h1
    · exact absurd (rank_lt_of_bef g h1) (by omega)

theorem rank_lt (g : Fin N → EReal) (a : Fin N) : rank g a < N := by
  classical
  have h : rank g a < (Finset.univ : Finset (Fin N)).card := by
    refine Finset.card_lt_card ⟨Finset.filter_subset _ _, fun hsub => ?_⟩
    have := hsub (Finset.mem_univ a)
    simp only [Finset.mem_filter, Finset.mem_univ, true_and] at this
    exact bef_irrefl g a this
  simpa using h

/-- Each place below `N` is some entry's. -/
theorem exists_rank (g : Fin N → EReal) (r : ℕ) (hr : r < N) : ∃ a, rank g a = r := by
  have hinj : Function.Injective fun a : Fin N => (⟨rank g a, rank_lt g a⟩ : Fin N) := fun a b h =>
    rank_inj g (congrArg Fin.val h)
  obtain ⟨a, ha⟩ := (Finite.injective_iff_surjective.mp hinj) ⟨r, hr⟩
  exact ⟨a, congrArg Fin.val ha⟩

/-- Entry `m` is among the three best, and not −∞. -/
def Sel (g : Fin N → EReal) (m : Fin N) : Prop := g m ≠ ⊥ ∧ rank g m < 3

/-! ## Repeated picking -/

/-- `l` is the entry picked: the first of the greatest, if that is not −∞. -/
def Pick (h : Fin N → EReal) (l : Fin N) : Prop := h l ≠ ⊥ ∧ ∀ l', ¬ bef h l' l

open Classical in
/-- The row with the picked entry taken out. -/
noncomputable def drop (h : Fin N → EReal) (l : Fin N) : EReal := if Pick h l then ⊥ else h l

open Classical in
/-- The row with the first `r` entries taken out. -/
noncomputable def dropped (g : Fin N → EReal) (r : ℕ) (l : Fin N) : EReal := if rank g l < r then ⊥ else g l

theorem pick_dropped (g : Fin N → EReal) (r : ℕ) (l : Fin N) :
    Pick (dropped g r) l ↔ g l ≠ ⊥ ∧ rank g l = r := by
  constructor
  · rintro ⟨h1, h2⟩
    have hr : ¬ rank g l < r := fun h => h1 (by unfold dropped; rw [if_pos h])
    have hl : dropped g r l = g l := by unfold dropped; rw [if_neg hr]
    rw [hl] at h1
    refine ⟨h1, ?_⟩
    by_contra hne
    obtain ⟨a, ha⟩ := exists_rank g r (by have := rank_lt g l; omega)
    have hb : bef g a l := bef_of_rank_lt g (by omega)
    have hda : dropped g r a = g a := by unfold dropped; rw [if_neg (by omega)]
    apply h2 a
    unfold bef; rw [hda, hl]; exact hb
  · rintro ⟨h1, h2⟩
    have hl : dropped g r l = g l := by unfold dropped; rw [if_neg (by omega)]
    refine ⟨by rw [hl]; exact h1, fun a hb => ?_⟩
    by_cases har : rank g a < r
    · have hda : dropped g r a = ⊥ := by unfold dropped; rw [if_pos har]
      unfold bef at hb; rw [hda, hl] at hb
      rcases hb with hb | ⟨hb, -⟩
      · exact not_lt_bot hb
      · exact h1 hb.symm
    · have hda : dropped g r a = g a := by unfold dropped; rw [if_neg har]
      unfold bef at hb; rw [hda, hl] at hb
      have := rank_lt_of_bef g hb
      omega

theorem drop_dropped (g : Fin N → EReal) (r : ℕ) : drop (dropped g r) = dropped g (r + 1) := by
  funext l
  unfold drop
  by_cases hp : Pick (dropped g r) l
  · rw [if_pos hp]
    have := ((pick_dropped g r l).mp hp).2
    unfold dropped; rw [if_pos (by omega)]
  · rw [if_neg hp]
    unfold dropped
    by_cases h : rank g l < r
    · rw [if_pos h, if_pos (by omega)]
    · rw [if_neg h]
      by_cases h' : rank g l < r + 1
      · rw [if_pos h']
        by_contra hne
        exact hp ((pick_dropped g r l).mpr ⟨hne, by omega⟩)
      · rw [if_neg h']

theorem dropped_zero (g : Fin N → EReal) : dropped g 0 = g := by
  funext l; unfold dropped; rw [if_neg (by omega)]

/-- Picking three times, each time from what is left, picks the three best. -/
theorem pick_three (g : Fin N → EReal) (l : Fin N) :
    (Pick g l ∨ Pick (drop g) l ∨ Pick (drop (drop g)) l) ↔ Sel g l := by
  have h0 := pick_dropped g 0 l
  have h1 := pick_dropped g 1 l
  have h2 := pick_dropped g 2 l
  rw [dropped_zero] at h0
  rw [show (1 : ℕ) = 0 + 1 from rfl, ← drop_dropped, dropped_zero] at h1
  rw [show (2 : ℕ) = 0 + 1 + 1 from rfl, ← drop_dropped, ← drop_dropped, dropped_zero] at h2
  rw [h0, h1, h2]
  unfold Sel
  constructor
  · rintro (h | h | h) <;> exact ⟨h.1, by omega⟩
  · rintro ⟨ha, hb⟩
    have : rank g l = 0 ∨ rank g l = 0 + 1 ∨ rank g l = 0 + 1 + 1 := by omega
    rcases this with h | h | h
    · exact Or.inl ⟨ha, h⟩
    · exact Or.inr (Or.inl ⟨ha, h⟩)
    · exact Or.inr (Or.inr ⟨ha, h⟩)

/-- The first position of the greatest entry, found as the least position among those that hold it. -/
theorem pick_iff (h : Fin N → EReal) (K : ℝ) (hK : (N : ℝ) ≤ K) (l : Fin N) :
    ((l : ℕ) : ℝ) = Finset.univ.fold min ⊤ (fun a : Fin N => if h a = Finset.univ.fold max ⊥ h ∧ ⊥ < h a
        then (((a : ℕ) : ℝ) : EReal) else (K : EReal)) ↔ Pick h l := by
  classical
  have hs : Finset.univ.fold max ⊥ h = Finset.univ.sup h := rfl
  rw [hs]
  set c : Fin N → EReal := fun a => if h a = Finset.univ.sup h ∧ ⊥ < h a then (((a : ℕ) : ℝ) : EReal) else (K : EReal)
    with hc
  have hi : Finset.univ.fold min ⊤ c = Finset.univ.inf c := rfl
  rw [hi]
  have hlK : ∀ a : Fin N, ((a : ℕ) : ℝ) < K := fun a =>
    lt_of_lt_of_le (by exact_mod_cast a.isLt) hK
  constructor
  · intro e
    obtain ⟨a, -, ha⟩ := Finset.exists_mem_eq_inf Finset.univ ⟨l, Finset.mem_univ l⟩ c
    rw [ha] at e
    have hcond : h a = Finset.univ.sup h ∧ ⊥ < h a := by
      by_contra hn
      have : c a = (K : EReal) := if_neg hn
      rw [this] at e
      exact absurd (EReal.coe_injective e) (hlK l).ne
    have hca : c a = (((a : ℕ) : ℝ) : EReal) := if_pos hcond
    rw [hca] at e
    have hla : l = a := by
      have := EReal.coe_injective e
      exact Fin.ext (by exact_mod_cast this)
    subst hla
    refine ⟨hcond.2.ne', fun b hb => ?_⟩
    rcases hb with hb | ⟨he, hb⟩
    · exact absurd (Finset.le_sup (f := h) (Finset.mem_univ b)) (by rw [← hcond.1]; exact not_le.mpr hb)
    · have hcb : c b = (((b : ℕ) : ℝ) : EReal) := if_pos ⟨he.trans hcond.1, he ▸ hcond.2⟩
      have hle : Finset.univ.inf c ≤ c b := Finset.inf_le (Finset.mem_univ b)
      rw [ha, hca, hcb] at hle
      have : ((l : ℕ) : ℝ) ≤ ((b : ℕ) : ℝ) := EReal.coe_le_coe_iff.mp hle
      have : (l : ℕ) ≤ b := by exact_mod_cast this
      exact absurd (Fin.lt_def.mp hb) (not_lt.mpr this)
  · rintro ⟨h1, h2⟩
    have hmax : h l = Finset.univ.sup h := by
      refine le_antisymm (Finset.le_sup (Finset.mem_univ l)) (Finset.sup_le fun b _ => ?_)
      by_contra hn
      exact h2 b (Or.inl (not_le.mp hn))
    have hcl : c l = (((l : ℕ) : ℝ) : EReal) := if_pos ⟨hmax, bot_lt_iff_ne_bot.mpr h1⟩
    refine le_antisymm (Finset.le_inf fun b _ => ?_) (hcl ▸ Finset.inf_le (Finset.mem_univ l))
    by_cases hb : h b = Finset.univ.sup h ∧ ⊥ < h b
    · rw [show c b = (((b : ℕ) : ℝ) : EReal) from if_pos hb]
      apply EReal.coe_le_coe_iff.mpr
      have : (l : ℕ) ≤ b := by
        by_contra hlt
        exact h2 b (Or.inr ⟨hb.1.trans hmax.symm, Fin.lt_def.mpr (not_le.mp hlt)⟩)
      exact_mod_cast this
    · rw [show c b = (K : EReal) from if_neg hb]
      exact EReal.coe_le_coe_iff.mpr (hlK l).le

/-! ## The sort -/

open Classical in
/-- A stable sort that puts greater entries first puts at place `k` the entry of rank `k`. -/
theorem rank_sortedFrom (g : Fin N → EReal) (before : Fin N → Fin N → Bool)
    (hb : ∀ a b, before a b = decide (g b < g a)) (k : Fin N) : rank g (sortedFrom before k) = k := by
  set B : Fin N → Fin N → Bool := fun a b => decide (bef g a b) with hB
  have hBt : ∀ a b, B a b = true ↔ bef g a b := fun a b => by simp [hB]
  have hBf : ∀ a b, B a b = false ↔ ¬ bef g a b := fun a b => by simp [hB]
  have hST : StrictTotalBefore B :=
    ⟨fun a => (hBf a a).mpr (bef_irrefl g a),
      fun a b c h1 h2 => (hBt a c).mpr (bef_trans g ((hBt a b).mp h1) ((hBt b c).mp h2)),
      fun a b h => by rw [hBt, hBt]; exact bef_total g h⟩
  have hcongr : ∀ l : List (Fin N), l.Pairwise (· < ·) → stableSort before l = stableSort B l := by
    intro l
    induction l with
    | nil => intro _; rfl
    | cons a l ih =>
      intro hl
      rw [List.pairwise_cons] at hl
      show insertBefore before a (stableSort before l) = insertBefore B a (stableSort B l)
      rw [ih hl.2]
      refine insertBefore_congr _ _ _ _ fun b hbm => ?_
      have hab : a < b := hl.1 b ((perm_stableSort B l).mem_iff.mp hbm)
      rw [hb, hB]
      refine decide_eq_decide.mpr ⟨Or.inl, fun h => h.elim id fun h => absurd h.2 (not_lt.mpr hab.le)⟩
  have hfin : (List.finRange N).Pairwise (· < ·) := List.pairwise_lt_finRange N
  have heq : sortedFrom before = sortedFrom B := by
    funext i
    unfold sortedFrom sortPositions
    simp only [List.get_eq_getElem, hcongr _ hfin]
    rfl
  rw [heq]
  have hmono : ∀ i j : Fin N, i < j → bef g (sortedFrom B i) (sortedFrom B j) := by
    intro i j hij
    have h := sortedFrom_noInversion B B (fun a b h => hST.asymm a b h) (fun _ _ h => h) hST.negTrans i j hij
    rcases bef_total g (fun e => hij.ne (sortedFrom_injective B e)) with h' | h'
    · exact h'
    · exact absurd h' ((hBf _ _).mp h)
  have himg : (Finset.univ.filter fun l => bef g l (sortedFrom B k)) = (Finset.univ.filter fun i => i < k).image (sortedFrom B) := by
    ext l
    simp only [Finset.mem_filter, Finset.mem_univ, true_and, Finset.mem_image]
    constructor
    · intro hl
      obtain ⟨i, rfl⟩ := sortedFrom_surjective B l
      refine ⟨i, ?_, rfl⟩
      by_contra hn
      rcases lt_or_eq_of_le (not_lt.mp hn) with h | h
      · exact bef_irrefl g _ (bef_trans g hl (hmono _ _ h))
      · subst h; exact bef_irrefl g _ hl
    · rintro ⟨i, hi, rfl⟩; exact hmono _ _ hi
  unfold rank
  rw [himg, Finset.card_image_of_injective _ (sortedFrom_injective B)]
  have := Fin.card_filter_val_lt (n := N) (m := (k : ℕ))
  rw [min_eq_right k.isLt.le] at this
  simpa only [Fin.lt_def] using this

/-- In a row whose first `n` entries are not −∞ and whose other entries are, the entries not −∞ are those of rank
    below `n`. -/
theorem rank_lt_iff (g : Fin N → EReal) (n : ℕ) (hn : n ≤ N) (hg : ∀ m, g m ≠ ⊥ ↔ (m : ℕ) < n) (m : Fin N) :
    rank g m < n ↔ g m ≠ ⊥ := by
  classical
  have hcard : (Finset.univ.filter fun l : Fin N => (l : ℕ) < n).card = n := by
    rw [Fin.card_filter_val_lt]; exact min_eq_right hn
  constructor
  · intro h hm
    have : n ≤ rank g m := by
      rw [← hcard]
      refine Finset.card_le_card fun l hl => ?_
      simp only [Finset.mem_filter, Finset.mem_univ, true_and] at hl ⊢
      left; rw [hm]; exact bot_lt_iff_ne_bot.mpr ((hg l).mpr hl)
    omega
  · intro hm
    rw [← hcard]
    refine Finset.card_lt_card ⟨fun l hl => ?_, fun hsub => ?_⟩
    · simp only [Finset.mem_filter, Finset.mem_univ, true_and] at hl ⊢
      apply (hg l).mp
      rcases hl with hl | ⟨hl, -⟩
      · exact (bot_le.trans_lt hl).ne'
      · rw [hl]; exact hm
    · have := hsub (show m ∈ _ by simpa using (hg m).mp hm)
      simp only [Finset.mem_filter, Finset.mem_univ, true_and] at this
      exact bef_irrefl g m this

end Cert.Sel
-- ==== Proof.Spec.lean ====
/-
  The attention with selected blocks, on the extended reals, for one head: a row attends to the earlier keys of its own
  block of 256 and to the keys of the three earlier blocks whose mean key it scores highest.
-/
module
public import proofs.«01_k».proof.Proof.Attn
public import proofs.«01_k».proof.Proof.Sel

@[expose] public section

namespace Cert.Spec

open Idealize.ShloMosaic
open scoped BigOperators

/-- The block that a row or key is in. -/
def blk (i : Fin 4096) : Fin 16 := ⟨i / 256, by omega⟩

/-- Position `l` of block `m`. -/
def pos (m : Fin 16) (l : Fin 256) : Fin 4096 := ⟨m * 256 + l, by omega⟩

/-- The rotary embedding of the first 32 lanes, in two halves of 16; the other lanes pass. -/
def rope (c s : Fin 4096 → Fin 16 → ℝ) (x : Fin 4096 → Fin 128 → ℝ) (i : Fin 4096) (d : Fin 128) : ℝ :=
  if h : (d : ℕ) < 16 then x i d * c i ⟨d, h⟩ - x i ⟨d + 16, by omega⟩ * s i ⟨d, h⟩
  else if h' : (d : ℕ) < 32 then x i d * c i ⟨d - 16, by omega⟩ + x i ⟨d - 16, by omega⟩ * s i ⟨d - 16, by omega⟩
  else x i d

section

variable (q k : Fin 4096 → Fin 128 → ℝ)

/-- The score of row `i` against block `m`: its product with the mean of the block's keys. -/
noncomputable def gate (i : Fin 4096) (m : Fin 16) : ℝ := ∑ d, (∑ l, k (pos m l) d) / 256 * q i d

open Classical in
/-- The block scores of row `i`, −∞ from its own block on. -/
noncomputable def gateRow (i : Fin 4096) (m : Fin 16) : EReal := if m < blk i then ((gate q k i m : ℝ) : EReal) else ⊥

open Classical in
/-- Row `i` attends to key `j`. -/
def Allowed (i j : Fin 4096) : Prop := if blk j = blk i then j ≤ i else Sel.Sel (gateRow q k i) (blk j)

/-- The scaled product of row `i` and key `j`. -/
noncomputable def dot (i j : Fin 4096) : ℝ := (∑ d, q i d * k j d) * (Real.sqrt 128)⁻¹

theorem gateRow_ne_bot (i : Fin 4096) (m : Fin 16) : gateRow q k i m ≠ ⊥ ↔ (m : ℕ) < blk i := by
  unfold gateRow
  rw [← Fin.lt_def]
  split_ifs with h
  · exact iff_of_true (EReal.coe_ne_bot _) h
  · exact iff_of_false (fun h' => h' rfl) h

/-- A row attends to itself. -/
theorem allowed_self (i : Fin 4096) : Allowed q k i i := by
  unfold Allowed; rw [if_pos rfl]

/-- A row attends to no key after it. -/
theorem allowed_le (i j : Fin 4096) (h : Allowed q k i j) : j ≤ i := by
  unfold Allowed at h
  split_ifs at h with e
  · exact h
  · have h1 := (gateRow_ne_bot q k i _).mp h.1
    unfold blk at h1
    simp only at h1
    rw [Fin.le_def]; omega

/-- One element of the result: the attention, gated by `z · σ(z)`. -/
noncomputable def result (v : Fin 4096 → EReal) (z : EReal) (i : Fin 4096) : EReal :=
  Attn.attn (Allowed q k i) (dot q k i) v * (z * Ideal.div 1 (1 + Ideal.exp (0 - z)))

end

end Cert.Spec
-- ==== Proof.KRoute.lean ====
/-
  The kernel's masks for one head: the rotary embedding, the block scores, the three picks and the mask that they give.
-/
module
public import proofs.«01_k».proof.Proof.Gen.KernelIdeal.Value
public import proofs.«01_k».proof.Proof.Words
public import proofs.«01_k».proof.Proof.Spec

@[expose] public section

set_option maxRecDepth 16384

namespace Cert.KRoute

open Idealize.ShloMosaic Cert.KernelIdeal Cert.KernelIdeal.Gen Cert.Spec
open scoped BigOperators

/-! ## Constants -/

theorem neg_eq : Named.named (F := Ideal) (φ := .f32) κ "neg" 0xF149F2CA#32 = (⊥ : EReal) :=
  IdealRules.named_const.ideal_named_scalar _ _ _ _ rfl
theorem gate_masked_eq : Named.named (F := Ideal) (φ := .f32) κ "gate_masked" 0xFF61B1E6#32 = (⊥ : EReal) :=
  IdealRules.named_const.ideal_named_scalar _ _ _ _ rfl
theorem half_gate_masked_eq : Named.named (F := Ideal) (φ := .f32) κ "half_gate_masked" 0xFEE1B1E6#32 = (⊥ : EReal) :=
  IdealRules.named_const.ideal_named_scalar _ _ _ _ rfl
theorem scale_eq : Named.named (F := Ideal) (φ := .f32) κ "scale" 0x3E0293EE#32
    = (((Real.sqrt 128)⁻¹ * (Real.log 2)⁻¹ : ℝ) : EReal) :=
  IdealRules.named_const.ideal_named_scalar _ _ _ _ rfl

theorem sitofp_small (a : ℕ) (ha : a < 2147483648) : FloatOps.sitofp (F := Ideal) .f32 (BitVec.ofNat 32 a) = ((a : ℝ) : EReal) := by
  show (((BitVec.ofNat 32 a).toInt : ℝ) : EReal) = _
  rw [Words.toInt_small a ha]
  norm_cast

theorem shr8_small (a : ℕ) (ha : a < 2147483648) : IntOp.shrui .vector (BitVec.ofNat 32 a) 8#32 = BitVec.ofNat 32 (a / 256) := by
  unfold IntOp.shrui
  rw [if_pos (by decide)]
  apply BitVec.eq_of_toNat_eq
  have h8 : 8 % 2 ^ 32 = 8 := rfl
  rw [BitVec.ushiftRight_eq', BitVec.toNat_ushiftRight, BitVec.toNat_ofNat, BitVec.toNat_ofNat, h8, BitVec.toNat_ofNat,
    Nat.shiftRight_eq_div_pow, Nat.mod_eq_of_lt (by omega : a < 2 ^ 32), Nat.mod_eq_of_lt (by omega : a / 256 < 2 ^ 32)]

/-! ## One pick -/

/-- The mask of the entries picked from the block scores `g`. -/
noncomputable def pick (g : FVec Ideal S16x4096 .f32) : IVec S16x4096 1 :=
  let m : FVec Ideal S16x4096 .f32 := broadcastTo S16x4096 (shapeCast S1x4096 (multiReduction .maximumf [0] S4096 g 0xFF800000#32
    reduces_S16x4096_S4096 (.inl rfl) rfl) shapeCasts_S4096_S1x4096) broadcasts_S1x4096_S16x4096
  let c : FVec Ideal S16x4096 .f32 := select (andi (cmpf .oeq g m) (cmpf .ogt g (broadcast S16x4096
    (Named.named (F := Ideal) κ "half_gate_masked" 0xFEE1B1E6#32)))) k0_pay17
    (broadcast S16x4096 (Scalar.ofBits (F := Ideal) .f32 0x43000000#32))
  cmpf .oeq k0_pay17 (broadcastTo S16x4096 (shapeCast S1x4096 (multiReduction .minimumf [0] S4096 c 0x7F800000#32
    reduces_S16x4096_S4096 (.inl rfl) rfl) shapeCasts_S4096_S1x4096) broadcasts_S1x4096_S16x4096)

/-- The block scores without the picked entries. -/
noncomputable def left (g : FVec Ideal S16x4096 .f32) : FVec Ideal S16x4096 .f32 :=
  select (pick g) (broadcast S16x4096 (Named.named (F := Ideal) κ "gate_masked" 0xFF61B1E6#32)) g

open Classical in
theorem pick_apply (g : FVec Ideal S16x4096 .f32) (m : Fin 16) (i : Fin 4096) :
    pick g (ix2 m i) = BitVec.ofBool (decide (Sel.Pick (fun a => g (ix2 a i)) m)) := by
  pointwise [pick, k0_pay17]
  rw [sitofp_small _ (by omega)]
  congr 1
  refine decide_eq_decide.mpr ?_
  rw [← Sel.pick_iff (fun a => g (ix2 a i)) 128 (by norm_num) m]
  rw [Words.ofBits_pos_inf, Words.ofBits_neg_inf, half_gate_masked_eq, Words.ofBits_128]
  have h2 : ∀ (P Q : Prop) [Decidable P] [Decidable Q] (x y : EReal), Scalar.select (IntOp.andi (BitVec.ofBool (decide P))
      (BitVec.ofBool (decide Q))) x y = if P ∧ Q then x else y := by
    intro P Q _ _ x y
    by_cases hP : P <;> by_cases hQ : Q <;> simp [hP, hQ, IntOp.andi, Scalar.select]
  refine Eq.to_iff (congrArg (_ = ·) (Finset.fold_congr fun x _ => ?_))
  rw [sitofp_small _ (by omega)]
  exact (h2 _ _ _ _).trans (by congr)

open Classical in
theorem left_apply (g : FVec Ideal S16x4096 .f32) (m : Fin 16) (i : Fin 4096) :
    left g (ix2 m i) = Sel.drop (fun a => g (ix2 a i)) m := by
  pointwise [left]
  rw [pick_apply, Scalar.select_ofBool, gate_masked_eq]
  unfold Sel.drop
  simp only [decide_eq_true_eq]

/-! ## The block scores -/

section

variable (C S : FVec Ideal S4096x128 .f32) (x : Vec Ideal S1x4096x128 .bf16)
  (c s : Fin 4096 → Fin 16 → ℝ) (xr : Fin 4096 → Fin 128 → ℝ)

/-- The table of cosines as the kernel holds it: two copies of the half table, then ones. -/
def CosTable : Prop := ∀ (i : Fin 4096) (d : Fin 128), C (ix2 i d) =
  ((if h : (d : ℕ) < 16 then c i ⟨d, h⟩ else if h' : (d : ℕ) < 32 then c i ⟨d - 16, by omega⟩ else 1 : ℝ) : EReal)

/-- The table of sines as the kernel holds it: the half table negated, the half table, then zeros. -/
def SinTable : Prop := ∀ (i : Fin 4096) (d : Fin 128), S (ix2 i d) =
  ((if h : (d : ℕ) < 16 then - s i ⟨d, h⟩ else if h' : (d : ℕ) < 32 then s i ⟨d - 16, by omega⟩ else 0 : ℝ) : EReal)

variable {C S x c s xr}

/-- The kernel's rotary embedding, by two rotations of the lanes. -/
theorem rope_apply (hC : CosTable C c) (hS : SinTable S s) (hx : ∀ i d, x (ix3 0 i d) = (xr i d : EReal)) (i : Fin 4096) (d : Fin 128) :
    k0_pay11 C S x (ix2 i d) = ((rope c s xr i d : ℝ) : EReal) := by
  pointwise [k0_pay11]
  rw [hC, hS, hx, hx, hx, Words.slt_small d 16 (by omega) (by omega), Scalar.select_ofBool]
  unfold rope
  have hd := d.isLt
  by_cases h1 : (d : ℕ) < 16
  · simp only [h1, decide_true, if_true, dif_pos]
    rw [show (⟨(↑d + 128 - 112) % 128, by omega⟩ : Fin 128) = ⟨d + 16, by omega⟩ from Fin.ext (by simp only; omega)]
    norm_cast
    ring_nf
  · simp only [h1, decide_false, dif_neg, not_false_eq_true, Bool.false_eq_true, if_false]
    by_cases h2 : (d : ℕ) < 32
    · simp only [h2, dif_pos]
      rw [show (⟨(↑d + 128 - 16) % 128, by omega⟩ : Fin 128) = ⟨d - 16, by omega⟩ from Fin.ext (by simp only; omega)]
      norm_cast
    · simp only [h2, dif_neg, not_false_eq_true]
      norm_cast
      ring_nf

variable {q k : Fin 4096 → Fin 128 → ℝ} {kr : FVec Ideal S4096x128 .f32}

/-- The mean key of a block. -/
theorem mean_apply (hk : ∀ i d, kr (ix2 i d) = (k i d : EReal)) (m : Fin 16) (d : Fin 128) :
    k0_pay10 kr (ix2 m d) = (((∑ l, k (pos m l) d) / 256 : ℝ) : EReal) := by
  pointwise [k0_pay10]
  rw [Words.ofBits_256, Ideal.div_coe (by norm_num)]
  have : ∀ l : Fin 256, kr (ix2 ⟨↑m * 256 + ↑l, by omega⟩ d) = (k (pos m l) d : EReal) := fun l => hk _ _
  simp only [this]
  rw [Attn.coe_sum, ← EReal.coe_mul]
  congr 1
  ring

theorem sub_self_coe (a : ℝ) : (a : EReal) - (a : EReal) = 0 := by
  rw [← EReal.coe_sub, sub_self]; rfl

/-- The block scores before the first pick. -/
theorem gate_apply (hq : ∀ i d, k0_pay11 C S x (ix2 i d) = (q i d : EReal)) (hk : ∀ i d, kr (ix2 i d) = (k i d : EReal))
    (m : Fin 16) (i : Fin 4096) :
    k0_pay19 (k0_pay14 C S x) (k0_pay15 kr) (k0_pay16 C S kr x) (ix2 m i) = gateRow q k i m := by
  have h15 : ∀ m d, k0_pay15 kr (ix2 m d) = (((∑ l, k (pos m l) d) / 256 : ℝ) : EReal) := fun m d => by
    pointwise [k0_pay15]; exact mean_apply hk m d
  have h14 : ∀ i d, k0_pay14 C S x (ix2 i d) = (0 : EReal) := fun i d => by
    pointwise [k0_pay14, k0_pay13]; rw [hq]; exact sub_self_coe _
  have h16 : ∀ m i, k0_pay16 C S kr x (ix2 m i) = ((gate q k i m : ℝ) : EReal) := fun m i => by
    pointwise [k0_pay16, k0_pay13]
    simp only [h15, hq, mean_apply hk, sub_self_coe, zero_mul, Finset.sum_const_zero, add_zero, ← EReal.coe_mul]
    rw [Attn.coe_sum]; rfl
  pointwise [k0_pay19, k0_pay17, k0_pay18]
  rw [h16, gate_masked_eq, shr8_small _ (by omega), sitofp_small _ (by omega), sitofp_small _ (by omega)]
  simp only [h14, mul_zero, Finset.sum_const_zero, add_zero]
  unfold gateRow blk
  simp only [EReal.coe_lt_coe_iff, Nat.cast_lt, Fin.lt_def]

/-! ## The mask -/

/-- The kernel's additive mask, one row per block: 0 where the row attends to the block, −∞ where not. -/
noncomputable def bias (C S : FVec Ideal S4096x128 .f32) (x : Vec Ideal S1x4096x128 .bf16) (kr : FVec Ideal S4096x128 .f32) :
    FVec Ideal S128x4096 .f32 :=
  k0_pay24 k0_pay17 (k0_pay21 (k0_pay14 C S x) (k0_pay15 kr) (k0_pay16 C S kr x))
    (k0_pay22 (k0_pay14 C S x) (k0_pay15 kr) (k0_pay16 C S kr x)) (k0_pay23 (k0_pay14 C S x) (k0_pay15 kr) (k0_pay16 C S kr x))

open Classical in
theorem bias_apply (hq : ∀ i d, k0_pay11 C S x (ix2 i d) = (q i d : EReal)) (hk : ∀ i d, kr (ix2 i d) = (k i d : EReal))
    (e : Fin 128) (i : Fin 4096) :
    bias C S x kr (ix2 e i) = if h : (e : ℕ) < 16 then
        (if (⟨e, h⟩ : Fin 16) = blk i ∨ Sel.Sel (gateRow q k i) ⟨e, h⟩ then 0 else ⊥) else 0 := by
  set a := k0_pay14 C S x
  set b := k0_pay15 kr
  set g := k0_pay16 C S kr x
  have hg : (fun m => k0_pay19 a b g (ix2 m i)) = gateRow q k i := funext fun m => gate_apply hq hk m i
  have h20 : k0_pay20 a b g = pick (k0_pay19 a b g) := rfl
  have h22 : k0_pay22 a b g = left (k0_pay19 a b g) := rfl
  have h23 : k0_pay23 a b g = pick (left (k0_pay19 a b g)) := rfl
  have p1 : ∀ m, pick (k0_pay19 a b g) (ix2 m i) = BitVec.ofBool (decide (Sel.Pick (gateRow q k i) m)) := fun m => by
    rw [pick_apply, hg]
  have l1 : (fun m => left (k0_pay19 a b g) (ix2 m i)) = Sel.drop (gateRow q k i) := funext fun m => by
    rw [left_apply, hg]
  have p2 : ∀ m, pick (left (k0_pay19 a b g)) (ix2 m i) = BitVec.ofBool (decide (Sel.Pick (Sel.drop (gateRow q k i)) m)) :=
    fun m => by rw [pick_apply, l1]
  have l2 : (fun m => left (left (k0_pay19 a b g)) (ix2 m i)) = Sel.drop (Sel.drop (gateRow q k i)) := funext fun m => by
    rw [left_apply, l1]
  have p3 : ∀ m, pick (left (left (k0_pay19 a b g))) (ix2 m i)
      = BitVec.ofBool (decide (Sel.Pick (Sel.drop (Sel.drop (gateRow q k i))) m)) := fun m => by rw [pick_apply, l2]
  have h21 : ∀ m, k0_pay21 a b g (ix2 m i) = if Sel.Pick (gateRow q k i) m then 1 else if m = blk i then 1 else (0 : EReal) := by
    intro m
    pointwise [k0_pay21, k0_pay17, k0_pay18]
    rw [h20, p1, Scalar.select_ofBool, shr8_small _ (by omega), sitofp_small _ (by omega), sitofp_small _ (by omega)]
    simp only [decide_eq_true_eq, EReal.coe_eq_coe_iff, Nat.cast_inj, Fin.ext_iff]
    rfl
  have hsplit : bias C S x kr = concatenate S128x4096 0 [⟨S16x4096, select (cmpf .ogt (select (pick (left (left (k0_pay19 a b g))))
      (broadcast S16x4096 (Scalar.ofBits (F := Ideal) .f32 0x3F800000#32)) (select (pick (left (k0_pay19 a b g)))
      (broadcast S16x4096 (Scalar.ofBits (F := Ideal) .f32 0x3F800000#32)) (k0_pay21 a b g)))
      (broadcast S16x4096 (Scalar.ofBits (F := Ideal) .f32 0x3F000000#32)))
      (broadcast S16x4096 (Scalar.ofBits (F := Ideal) .f32 0x00000000#32))
      (broadcast S16x4096 (Named.named (F := Ideal) κ "neg" 0xF149F2CA#32))⟩,
      ⟨S112x4096, broadcast S112x4096 (Scalar.ofBits (F := Ideal) .f32 0x00000000#32)⟩] concatenates_S16x4096_S112x4096_S128x4096_d0 := rfl
  rw [hsplit]
  pointwise
  by_cases h : (e : ℕ) < 16
  · simp only [dif_pos h]
    rw [p3, p2, h21, Scalar.select_ofBool, Scalar.select_ofBool, neg_eq]
    simp only [Words.ofBits_half]
    rw [← Sel.pick_three (gateRow q k i)]
    simp only [decide_eq_true_eq]
    have h1 : ((1 / 2 : ℝ) : EReal) < 1 := by exact_mod_cast (by norm_num : (1 / 2 : ℝ) < 1)
    have h0 : ¬ ((1 / 2 : ℝ) : EReal) < 0 := by
      rw [not_lt]; exact_mod_cast (by norm_num : (0 : ℝ) ≤ 1 / 2)
    by_cases e3 : Sel.Pick (Sel.drop (Sel.drop (gateRow q k i))) ⟨e, h⟩
    · simp only [e3, if_true, h1, or_true]
    by_cases e2 : Sel.Pick (Sel.drop (gateRow q k i)) ⟨e, h⟩
    · simp only [e3, e2, if_true, if_false, h1, or_true, true_or]
    by_cases e1 : Sel.Pick (gateRow q k i) ⟨e, h⟩
    · simp only [e3, e2, e1, if_true, if_false, h1, or_true, true_or]
    by_cases e0 : (⟨e, h⟩ : Fin 16) = blk i
    · simp only [e3, e2, e1, if_false]
      simp only [e0, if_true, h1, true_or]
    · simp only [e3, e2, e1, e0, if_false, h0, or_self]
  · simp only [dif_neg h]

end

end Cert.KRoute
-- ==== Proof.Tile.lean ====
/-
  One block of 256 query rows of the attention kernel, at any number of keys: the masked scores, and the output row that
  they give.
-/
module
public import proofs.«01_k».proof.Proof.Gen.KernelIdeal.Value
public import proofs.«01_k».proof.Proof.Words
public import Idealize.ShloMosaic.Lib.Pointwise.IndexVar

@[expose] public section

set_option maxRecDepth 16384

namespace Cert.Tile

open Idealize.ShloMosaic Cert.KernelIdeal Cert.KernelIdeal.Gen
open scoped BigOperators

/-- A shape of two axes. -/
abbrev Sh (a b : ℕ) : Shape := ⟨2, ![a, b]⟩

/-- The scores of a block's rows against the block's own keys, −∞ above the diagonal. -/
noncomputable def own (qa ko : FVec Ideal (Sh 256 256) .bf16) : FVec Ideal (Sh 256 256) .f32 :=
  select k0_pay61 (matmul (DotDims.transposedRhs 256 256 256) none qa ko (constant (F := Ideal) (Sh 256 256) .f32 0x00000000#32))
    (broadcast (Sh 256 256) (Named.named (F := Ideal) κ "neg" 0xF149F2CA#32))

/-- The scores against the `n` keys of the earlier blocks followed by those against the block's own keys. -/
noncomputable def scores (n N : ℕ) (hc : Shape.Concatenates [Sh 256 n, Sh 256 256] (Sh 256 N) 1)
    (qa ko : FVec Ideal (Sh 256 256) .bf16) (kp : FVec Ideal (Sh n 256) .bf16) : FVec Ideal (Sh 256 N) .f32 :=
  concatenate (Sh 256 N) 1 [⟨Sh 256 n, matmul (DotDims.transposedRhs 256 256 n) none qa kp (constant (F := Ideal) (Sh 256 n) .f32 0x00000000#32)⟩,
    ⟨Sh 256 256, own qa ko⟩] hc

/-- The exponentials of the scores less their row's greatest. -/
noncomputable def expo (N : ℕ) (hr : (Sh 256 N).Reduces [1] ⟨1, ![256]⟩) (hs : Shape.ShapeCasts ⟨1, ![256]⟩ (Sh 256 1))
    (hb : Shape.Broadcasts (Sh 256 1) (Sh 256 N)) (s : FVec Ideal (Sh 256 N) .f32) : FVec Ideal (Sh 256 N) .f32 :=
  exp2 (subf s (broadcastTo (Sh 256 N) (shapeCast (Sh 256 1) (multiReduction .maximumf [1] ⟨1, ![256]⟩ s 0xFF800000#32 hr (.inl rfl) rfl) hs) hb))

/-- A block's output: the weighted sum of the values over the sum of the weights, times the gate `z · σ(z)`. -/
noncomputable def out (N : ℕ) (p : FVec Ideal (Sh 256 N) .f32) (va : FVec Ideal (Sh N 256) .bf16)
    (z : FVec Ideal S1x256x128 .bf16) : FVec Ideal S1x256x128 .bf16 :=
  let pv : FVec Ideal S256x256 .f32 := matmul (DotDims.plain 256 N 256) none (truncf .bf16 p bitsLt_bf16_f32) va
    (constant (F := Ideal) S256x256 .f32 0x00000000#32)
  let one : Ideal .f32 := Scalar.ofBits (F := Ideal) .f32 0x3F800000#32
  let num : FVec Ideal S256x128 .f32 := extractStridedSlice S256x128 ![0, 0] pv slices_S256x256_o0_0_S256x128
  let den : FVec Ideal S256x128 .f32 := extractStridedSlice S256x128 ![0, 128] pv slices_S256x256_o0_128_S256x128
  let zf : FVec Ideal S256x128 .f32 := extf .f32 (shapeCast S256x128 z shapeCasts_S1x256x128_S256x128 : FVec Ideal S256x128 .bf16) bitsLt_bf16_f32
  let zn : FVec Ideal S256x128 .f32 := subf (broadcast S256x128 (Scalar.ofBits (F := Ideal) .f32 0x00000000#32)) zf
  let gate : FVec Ideal S256x128 .f32 := mulf zf (divf (broadcast S256x128 one) (addf (broadcast S256x128 one) (exp zn)))
  shapeCast S1x256x128 (truncf .bf16 (mulf (mulf num (divf (broadcast S256x128 one) den)) gate) bitsLt_bf16_f32 : FVec Ideal S256x128 .bf16)
    shapeCasts_S256x128_S1x256x128

/-- A score against a block's own keys, read at a row and a key. -/
theorem own_apply (qa ko : FVec Ideal (Sh 256 256) .bf16) (r k : Fin 256) :
    own qa ko (ix2 r k) = if (k : ℕ) ≤ r then ∑ x, qa (ix2 r x) * ko (ix2 k x) else ⊥ := by
  have hneg : Named.named (F := Ideal) (φ := .f32) κ "neg" 0xF149F2CA#32 = (⊥ : EReal) :=
    IdealRules.named_const.ideal_named_scalar _ _ _ _ rfl
  pointwise [own, k0_pay61]
  rw [hneg, Words.sle_small _ _ (by omega) (by omega)]
  pointwise

/-- A masked score of the kernel, read at a row and a key. -/
theorem scores_apply (n N : ℕ) (hN : N = n + 256) (hc : Shape.Concatenates [Sh 256 n, Sh 256 256] (Sh 256 N) 1)
    (qa ko : FVec Ideal (Sh 256 256) .bf16) (kp : FVec Ideal (Sh n 256) .bf16) (r : Fin 256) (k : Fin N) :
    scores n N hc qa ko kp (ix2 r k) = if h : (k : ℕ) < n then ∑ x, qa (ix2 r x) * kp (ix2 ⟨k, h⟩ x)
      else if (k : ℕ) - n ≤ r then ∑ x, qa (ix2 r x) * ko (ix2 ⟨k - n, by omega⟩ x) else ⊥ := by
  subst hN
  pointwise [scores]
  by_cases h1 : (k : ℕ) < n
  · simp only [dif_pos h1]
  · simp only [dif_neg h1]
    exact own_apply qa ko r _

/-- An exponential read at a row and a key. -/
theorem expo_apply (N : ℕ) (hr : (Sh 256 N).Reduces [1] ⟨1, ![256]⟩) (hs : Shape.ShapeCasts ⟨1, ![256]⟩ (Sh 256 1))
    (hb : Shape.Broadcasts (Sh 256 1) (Sh 256 N)) (s : FVec Ideal (Sh 256 N) .f32) (r : Fin 256) (k : Fin N) :
    expo N hr hs hb s (ix2 r k) = Ideal.exp2 (s (ix2 r k) - Finset.univ.fold max ⊥ fun x => s (ix2 r x)) := by
  have h : Ideal.ofBits FTy.f32 0xFF800000#32 = ⊥ := by simp [Ideal.ofBits, Ideal.ieee]
  pointwise [expo]
  rw [h]
  rfl

/-- A block's output read at a row and a lane. -/
theorem out_apply (N : ℕ) (p : FVec Ideal (Sh 256 N) .f32) (va : FVec Ideal (Sh N 256) .bf16)
    (z : FVec Ideal S1x256x128 .bf16) (u : Fin 1) (r : Fin 256) (d : Fin 128) :
    out N p va z (ix3 u r d)
      = (∑ k, p (ix2 r k) * va (ix2 k ⟨d, by omega⟩)) * Ideal.div 1 (∑ k, p (ix2 r k) * va (ix2 k ⟨128 + d, by omega⟩))
        * (z (ix3 0 r d) * Ideal.div 1 (1 + Ideal.exp (0 - z (ix3 0 r d)))) := by
  have hm : ∀ c : Fin 256, Ideal.matmul (DotDims.plain 256 N 256) (truncf FTy.bf16 p bitsLt_bf16_f32) va
      (constant (F := Ideal) S256x256 FTy.f32 0#32) (ix2 r c) = ∑ k, p (ix2 r k) * va (ix2 k c) := by
    intro c
    rw [Ideal.matmul_apply₁ _ rfl rfl]
    pointwise
  pointwise [out]
  rw [hm, hm]

/-- The block after 3840 keys is such a block. -/
theorem pay65_eq (qa ko kp va z) : k0_pay65 (F := Ideal) (k0_pay63 qa ko kp va) (k0_pay64 qa ko kp va) (Scalar.ofBits .f32 0x3F800000#32) z
    = out 4096 (expo 4096 reduces_S256x4096_S256 shapeCasts_S256_S256x1 broadcasts_S256x1_S256x4096
        (scores 3840 4096 concatenates_S256x3840_S256x256_S256x4096_d1 qa ko kp)) va z := rfl

end Cert.Tile
-- ==== Proof.Block.lean ====
/-
  One block of query rows of the attention kernel, from rows of queries, keys and values carried in 256 lanes: its output
  is the gated attention row.
-/
module
public import proofs.«01_k».proof.Proof.KRoute
public import proofs.«01_k».proof.Proof.Tile
public import proofs.«01_k».proof.Proof.Attn

@[expose] public section

set_option maxRecDepth 16384

namespace Cert.Block

open Idealize.ShloMosaic Cert.KernelIdeal Cert.KernelIdeal.Gen Cert.Spec
open scoped BigOperators

/-- The queries in 256 lanes: the scaled query, then the additive mask of the row, one lane per block. -/
noncomputable def QA (C S : FVec Ideal S4096x128 .f32) (x : Vec Ideal S1x4096x128 .bf16) (kr : FVec Ideal S4096x128 .f32)
    (y : S4096x256.Idx) : EReal :=
  if h : (y 1 : ℕ) < 128 then k0_pay12 C S x (ix2 (y 0 : Fin 4096) (⟨y 1, h⟩ : Fin 128))
  else KRoute.bias C S x kr (ix2 (⟨(y 1 : ℕ) - 128, by have := (y 1).isLt; change (y 1 : ℕ) < 256 at this; omega⟩ : Fin 128) (y 0 : Fin 4096))

/-- The keys in 256 lanes: the key, then 1 in the lane of the key's block. -/
noncomputable def KA (kr : FVec Ideal S4096x128 .f32) (y : S4096x256.Idx) : EReal :=
  if h : (y 1 : ℕ) < 128 then kr (ix2 (y 0 : Fin 4096) (⟨y 1, h⟩ : Fin 128))
  else if (y 1 : ℕ) - 128 = (y 0 : ℕ) / 256 then 1 else 0

/-- The values in 256 lanes: the value, then ones. -/
noncomputable def VA (v : Vec Ideal S1x4096x128 .bf16) (y : S4096x256.Idx) : EReal :=
  if h : (y 1 : ℕ) < 128 then v (ix3 0 (y 0 : Fin 4096) (⟨y 1, h⟩ : Fin 128)) else 1

section

variable {C S : FVec Ideal S4096x128 .f32} {x : Vec Ideal S1x4096x128 .bf16} {q k : Fin 4096 → Fin 128 → ℝ} {kr : FVec Ideal S4096x128 .f32}
  {vr : Vec Ideal S1x4096x128 .bf16}

/-- A score, before the causal mask: the scaled dot product where the query's row attends to the key's block, −∞ elsewhere. -/
theorem score_apply (hq : ∀ i d, k0_pay11 C S x (ix2 i d) = (q i d : EReal)) (hk : ∀ i d, kr (ix2 i d) = (k i d : EReal)) (i j : Fin 4096) :
    ∑ c : Fin 256, QA C S x kr (ix2 i c) * KA kr (ix2 j c)
      = Attn.score (fun j => blk j = blk i ∨ Sel.Sel (gateRow q k i) (blk j)) (fun j => dot q k i j * (Real.log 2)⁻¹) j := by
  rw [Fin.sum_univ_add (a := 128) (b := 128)]
  have h1 : ∑ d : Fin 128, QA C S x kr (ix2 i (Fin.castAdd 128 d)) * KA kr (ix2 j (Fin.castAdd 128 d))
      = ((dot q k i j * (Real.log 2)⁻¹ : ℝ) : EReal) := by
    have h : ∀ d : Fin 128, QA C S x kr (ix2 i (Fin.castAdd 128 d)) * KA kr (ix2 j (Fin.castAdd 128 d))
        = ((q i d * ((Real.sqrt 128)⁻¹ * (Real.log 2)⁻¹) * k j d : ℝ) : EReal) := by
      intro d
      have hd : ((ix2 i (Fin.castAdd 128 d) : S4096x256.Idx) 1 : ℕ) < 128 := d.isLt
      have hd' : ((ix2 j (Fin.castAdd 128 d) : S4096x256.Idx) 1 : ℕ) < 128 := d.isLt
      rw [QA, KA, dif_pos hd, dif_pos hd']
      have e : k0_pay12 C S x (ix2 i d) = ((q i d * ((Real.sqrt 128)⁻¹ * (Real.log 2)⁻¹) : ℝ) : EReal) := by
        rw [EReal.coe_mul, ← hq, ← KRoute.scale_eq]
        pointwise [k0_pay12]
      exact (congrArg₂ (· * ·) e (hk j d)).trans (EReal.coe_mul _ _).symm
    rw [Finset.sum_congr rfl fun d _ => h d, Attn.coe_sum, dot, Finset.sum_mul, Finset.sum_mul]
    congr 1
    exact Finset.sum_congr rfl fun d _ => by ring
  have h2 : ∑ e : Fin 128, QA C S x kr (ix2 i (Fin.natAdd 128 e)) * KA kr (ix2 j (Fin.natAdd 128 e))
      = KRoute.bias C S x kr (ix2 ⟨(blk j : ℕ), by omega⟩ i) := by
    have h : ∀ e : Fin 128, QA C S x kr (ix2 i (Fin.natAdd 128 e)) * KA kr (ix2 j (Fin.natAdd 128 e))
        = KRoute.bias C S x kr (ix2 e i) * if (e : ℕ) = (j : ℕ) / 256 then 1 else 0 := by
      intro e
      have hd : ¬ ((ix2 i (Fin.natAdd 128 e) : S4096x256.Idx) 1 : ℕ) < 128 := by
        change ¬ (128 + (e : ℕ) < 128); omega
      have hd' : ¬ ((ix2 j (Fin.natAdd 128 e) : S4096x256.Idx) 1 : ℕ) < 128 := hd
      rw [QA, KA, dif_neg hd, dif_neg hd']
      have e1 : ((ix2 i (Fin.natAdd 128 e) : S4096x256.Idx) 1 : ℕ) - 128 = e := by
        change 128 + (e : ℕ) - 128 = e; omega
      have e2 : ((ix2 j (Fin.natAdd 128 e) : S4096x256.Idx) 1 : ℕ) - 128 = e := e1
      simp only [e1, e2]
      rfl
    rw [Finset.sum_congr rfl fun e _ => h e, Finset.sum_eq_single (⟨(blk j : ℕ), by omega⟩ : Fin 128)]
    · exact (congrArg _ (if_pos rfl)).trans (mul_one _)
    · intro b _ hb
      exact (congrArg _ (if_neg fun hh => hb (Fin.ext hh))).trans (mul_zero _)
    · intro hh; exact absurd (Finset.mem_univ _) hh
  rw [h1, h2, KRoute.bias_apply hq hk, dif_pos (show ((⟨(blk j : ℕ), by omega⟩ : Fin 128) : ℕ) < 16 from (blk j).isLt), Attn.score]
  split
  · exact add_zero _
  · exact EReal.add_bot _

/-- A block whose scores are those of the first `N` keys, the row's own position among them, gives the gated attention row. -/
theorem out_of_score {v : Fin 4096 → Fin 128 → EReal} (N : ℕ) (hN : N ≤ 4096) (hr : (Tile.Sh 256 N).Reduces [1] ⟨1, ![256]⟩)
    (hs : Shape.ShapeCasts ⟨1, ![256]⟩ (Tile.Sh 256 1)) (hb : Shape.Broadcasts (Tile.Sh 256 1) (Tile.Sh 256 N))
    (s : FVec Ideal (Tile.Sh 256 N) .f32) (va : FVec Ideal (Tile.Sh N 256) .bf16) (z : FVec Ideal S1x256x128 .bf16)
    (u : Fin 1) (r : Fin 256) (d : Fin 128) (i : Fin 4096) (hi : (i : ℕ) < N)
    (hsc : ∀ l : Fin N, s (ix2 r l) = Attn.score (fun l : Fin N => Allowed q k i (Fin.castLE hN l))
      (fun l => dot q k i (Fin.castLE hN l) * (Real.log 2)⁻¹) l)
    (hv : ∀ l : Fin N, va (ix2 l ⟨d, by omega⟩) = v (Fin.castLE hN l) d) (h1 : ∀ l : Fin N, va (ix2 l ⟨128 + d, by omega⟩) = 1) :
    Tile.out N (Tile.expo N hr hs hb s) va z (ix3 u r d)
      = result q k (fun j => v j d) (z (ix3 0 r d)) i := by
  have hself : Allowed q k i (Fin.castLE hN ⟨i, hi⟩) := allowed_self q k i
  have he : ∃ l : Fin N, Allowed q k i (Fin.castLE hN l) := ⟨⟨i, hi⟩, hself⟩
  obtain ⟨M, hM⟩ := Attn.fold_max_real (fun l : Fin N => Allowed q k i (Fin.castLE hN l))
    (fun l => dot q k i (Fin.castLE hN l) * (Real.log 2)⁻¹) he
  have hp : ∀ l : Fin N, Tile.expo N hr hs hb s (ix2 r l)
      = ((Attn.wgt (fun l : Fin N => Allowed q k i (Fin.castLE hN l)) (fun l => dot q k i (Fin.castLE hN l)) l * Real.rpow 2 (-M) : ℝ) : EReal) := by
    intro l
    rw [Tile.expo_apply, funext hsc, hsc l, hM, Attn.exp2_score_sub]
  rw [Tile.out_apply, Finset.sum_congr rfl fun l _ => congrArg₂ (· * ·) (hp l) (hv l),
    Finset.sum_congr rfl fun l _ => congrArg₂ (· * ·) (hp l) (h1 l), result]
  refine congrArg (· * _) ?_
  refine (Attn.attn_of_scaled _ _ (fun l => v (Fin.castLE hN l) d) he _ (Real.rpow_pos_of_pos (by norm_num) _)).trans ?_
  refine Attn.attn_reindex (Fin.castLE hN) _ (Allowed q k i) (fun a b _ _ h => Fin.castLE_injective hN h) (fun _ h => h)
    (fun j hj => ?_) (dot q k i) (fun j => v j d)
  have hle := Fin.le_def.mp (allowed_le q k i j hj)
  exact ⟨⟨j, by omega⟩, hj, rfl⟩

open Classical in
/-- A score against the row's own block, the causal mask included, is the attention's. -/
theorem own_score (n : ℕ) (hn : n % 256 = 0) (hN : n + 256 ≤ 4096) (r m : Fin 256) :
    (if (m : ℕ) ≤ r then Attn.score (fun j => blk j = blk ⟨n + (r : ℕ), by omega⟩ ∨ Sel.Sel (gateRow q k ⟨n + (r : ℕ), by omega⟩) (blk j))
        (fun j => dot q k ⟨n + (r : ℕ), by omega⟩ j * (Real.log 2)⁻¹) ⟨n + (m : ℕ), by omega⟩ else ⊥)
      = Attn.score (fun j => Allowed q k ⟨n + (r : ℕ), by omega⟩ j) (fun j => dot q k ⟨n + (r : ℕ), by omega⟩ j * (Real.log 2)⁻¹) ⟨n + (m : ℕ), by omega⟩ := by
  have hb : blk ⟨n + (m : ℕ), by omega⟩ = blk ⟨n + (r : ℕ), by omega⟩ := Fin.ext (by change (n + (m : ℕ)) / 256 = (n + (r : ℕ)) / 256; omega)
  have hA : Allowed q k ⟨n + (r : ℕ), by omega⟩ ⟨n + (m : ℕ), by omega⟩ ↔ (m : ℕ) ≤ r := by
    unfold Allowed
    rw [if_pos hb, Fin.le_def]
    change n + (m : ℕ) ≤ n + (r : ℕ) ↔ _
    omega
  unfold Attn.score
  by_cases h : (m : ℕ) ≤ r
  · rw [if_pos h, if_pos (Or.inl hb), if_pos (hA.mpr h)]
  · rw [if_neg h, if_neg (fun hh => h (hA.mp hh))]

/-- A score against an earlier block is the attention's. -/
theorem earlier_score (i j : Fin 4096) (h : blk j ≠ blk i) :
    Attn.score (fun j => blk j = blk i ∨ Sel.Sel (gateRow q k i) (blk j)) (fun j => dot q k i j * (Real.log 2)⁻¹) j
      = Attn.score (fun j => Allowed q k i j) (fun j => dot q k i j * (Real.log 2)⁻¹) j := by
  have hA : Allowed q k i j ↔ (blk j = blk i ∨ Sel.Sel (gateRow q k i) (blk j)) := by
    unfold Allowed
    rw [if_neg h]
    exact ⟨Or.inr, fun hh => hh.resolve_left h⟩
  unfold Attn.score
  by_cases hh : Allowed q k i j
  · rw [if_pos hh, if_pos (hA.mp hh)]
  · rw [if_neg hh, if_neg (fun h' => hh (hA.mpr h'))]

/-- The scores of a block's rows against the keys up to the block's end are the attention's. -/
theorem scores_eq (hq : ∀ i d, k0_pay11 C S x (ix2 i d) = (q i d : EReal)) (hk : ∀ i d, kr (ix2 i d) = (k i d : EReal))
    (n N : ℕ) (hn : n % 256 = 0) (hN : N = n + 256) (hN' : N ≤ 4096) (hc : Shape.Concatenates [Tile.Sh 256 n, Tile.Sh 256 256] (Tile.Sh 256 N) 1)
    (qa ko : FVec Ideal (Tile.Sh 256 256) .bf16) (kp : FVec Ideal (Tile.Sh n 256) .bf16)
    (hqa : ∀ (r : Fin 256) (c : Fin 256), qa (ix2 r c) = QA C S x kr (ix2 (⟨n + (r : ℕ), by omega⟩ : Fin 4096) c))
    (hko : ∀ (r : Fin 256) (c : Fin 256), ko (ix2 r c) = KA kr (ix2 (⟨n + (r : ℕ), by omega⟩ : Fin 4096) c))
    (hkp : ∀ (r : Fin n) (c : Fin 256), kp (ix2 r c) = KA kr (ix2 (⟨(r : ℕ), by omega⟩ : Fin 4096) c)) (r : Fin 256) (l : Fin N) :
    Tile.scores n N hc qa ko kp (ix2 r l) = Attn.score (fun l : Fin N => Allowed q k ⟨n + (r : ℕ), by omega⟩ (Fin.castLE hN' l))
      (fun l => dot q k ⟨n + (r : ℕ), by omega⟩ (Fin.castLE hN' l) * (Real.log 2)⁻¹) l := by
  have hl := l.isLt
  rw [Tile.scores_apply n N hN]
  simp only [hqa, hko, hkp, score_apply hq hk]
  by_cases h : (l : ℕ) < n
  · rw [dif_pos h]
    refine earlier_score _ _ fun hh => ?_
    have : (l : ℕ) / 256 = (n + (r : ℕ)) / 256 := congrArg Fin.val hh
    omega
  · rw [dif_neg h]
    refine (own_score n hn (by omega) r ⟨(l : ℕ) - n, by omega⟩).trans ?_
    have e : (⟨n + ((l : ℕ) - n), by omega⟩ : Fin 4096) = Fin.castLE hN' l := Fin.ext (by change n + ((l : ℕ) - n) = l; omega)
    exact congrArg (Attn.score (fun j => Allowed q k ⟨n + (r : ℕ), by omega⟩ j) (fun j => dot q k ⟨n + (r : ℕ), by omega⟩ j * (Real.log 2)⁻¹)) e

/-- The first block's scores, against its own keys only, are the attention's. -/
theorem own_eq (hq : ∀ i d, k0_pay11 C S x (ix2 i d) = (q i d : EReal)) (hk : ∀ i d, kr (ix2 i d) = (k i d : EReal))
    (qa ko : FVec Ideal (Tile.Sh 256 256) .bf16)
    (hqa : ∀ (r : Fin 256) (c : Fin 256), qa (ix2 r c) = QA C S x kr (ix2 (⟨(r : ℕ), by omega⟩ : Fin 4096) c))
    (hko : ∀ (r : Fin 256) (c : Fin 256), ko (ix2 r c) = KA kr (ix2 (⟨(r : ℕ), by omega⟩ : Fin 4096) c)) (r l : Fin 256) :
    Tile.own qa ko (ix2 r l) = Attn.score (fun l : Fin 256 => Allowed q k ⟨(r : ℕ), by omega⟩ (Fin.castLE (by omega) l))
      (fun l => dot q k ⟨(r : ℕ), by omega⟩ (Fin.castLE (by omega) l) * (Real.log 2)⁻¹) l := by
  rw [Tile.own_apply]
  simp only [hqa, hko, score_apply hq hk]
  have := own_score (q := q) (k := k) 0 rfl (by omega) r l
  simp only [Nat.zero_add] at this
  exact this

end

end Cert.Block
-- ==== Proof.KPoint.lean ====
/-
  One grid point of the attention kernel: what the three scratches hold when they are read, and the block it leaves.
-/
module
public import proofs.«01_k».proof.Proof.Block
public import Idealize.ShloMosaic.Lib.Pipeline.ReadBack

@[expose] public section

set_option maxRecDepth 16384

namespace Cert.KPoint

open Idealize.ShloMosaic Cert.KernelIdeal Cert.KernelIdeal.Gen Cert.Spec Cert.Block
open scoped BigOperators

theorem exists_ix2 {a b : ℕ} (x : (⟨2, ![a, b]⟩ : Shape).Idx) : ∃ (i : Fin a) (j : Fin b), x = ix2 i j :=
  ⟨x 0, x 1, by funext t; fin_cases t <;> rfl⟩

/-- The place, in the buffer of 256 lanes, of an element of a block. -/
theorem emb_ix2 (o p a b : ℕ) (inb : ∀ t, (![o, p] : Fin 2 → ℕ) t + (⟨2, ![a, b]⟩ : Shape).size t ≤ S4096x256.size t) (i : Fin a) (j : Fin b)
    (hi : o + i < 4096) (hj : p + j < 256) :
    (Rect.unit (s := S4096x256) ![o, p] (⟨2, ![a, b]⟩ : Shape).size inb).idx (ix2 i j) = (ix2 (⟨o + i, hi⟩ : Fin 4096) (⟨p + j, hj⟩ : Fin 256) : S4096x256.Idx) := by
  funext t
  refine Fin.ext ?_
  fin_cases t
  · change o + 1 * (i : ℕ) = o + i; omega
  · change p + 1 * (j : ℕ) = p + j; omega

theorem inb_bias {o : ℕ} (ho : o + 128 ≤ 4096) (a : Fin 2) : (![o, 128] : Fin 2 → ℕ) a + S128x128.size a ≤ S4096x256.size a := by
  fin_cases a
  · exact ho
  · change 128 + 128 ≤ 256; omega

theorem inb_front (a : Fin 2) : (![0, 0] : Fin 2 → ℕ) a + S4096x128.size a ≤ S4096x256.size a := by
  fin_cases a
  · exact le_rfl
  · change 0 + 128 ≤ 256; omega

/-- The mask of 128 rows, transposed, is a block of the queries in 256 lanes. -/
theorem bias_piece (o : ℕ) (ho : o + 128 ≤ 4096) (C S : FVec Ideal S4096x128 .f32) (x : Vec Ideal S1x4096x128 .bf16) (kr : FVec Ideal S4096x128 .f32)
    (B : FVec Ideal S128x4096 .f32) (hB : B = KRoute.bias C S x kr) (hsl : Shape.Slices S128x4096 ![0, o] S128x128)
    (y : (Rect.unit (s := S4096x256) ![o, 128] S128x128.size (inb_bias ho)).shape.Idx) :
    (shapeCast S128x128 (truncf .bf16 (transpose S128x128 [1, 0] (extractStridedSlice S128x128 ![0, o] B hsl)
      transposes_S128x128_p1_0_S128x128) bitsLt_bf16_f32 : FVec Ideal S128x128 .bf16) shapeCasts_S128x128_S128x128 : FVec Ideal S128x128 .bf16) y
      = QA C S x kr ((Rect.unit (s := S4096x256) ![o, 128] S128x128.size (inb_bias ho)).emb y) := by
  subst hB
  obtain ⟨a, b, rfl⟩ := exists_ix2 (a := 128) (b := 128) y
  refine Eq.trans ?_ (congrArg (QA C S x kr) (emb_ix2 o 128 128 128 (inb_bias ho) a b (by omega) (by omega))).symm
  have h1 : ¬ (((ix2 (⟨o + a, by omega⟩ : Fin 4096) (⟨128 + b, by omega⟩ : Fin 256) : S4096x256.Idx)) 1 : ℕ) < 128 := by
    change ¬ 128 + (b : ℕ) < 128; omega
  rw [QA, dif_neg h1]
  pointwise

/-- A block of lanes from the front is the scaled queries. -/
theorem q_piece (C S : FVec Ideal S4096x128 .f32) (x : Vec Ideal S1x4096x128 .bf16) (kr : FVec Ideal S4096x128 .f32)
    (C' S' : FVec Ideal S4096x128 .f32) (x' : Vec Ideal S1x4096x128 .bf16) (hC : C' = C) (hS : S' = S) (hx : x' = x)
    (y : (Rect.unit (s := S4096x256) ![0, 0] S4096x128.size inb_front).shape.Idx) :
    k0_pay12 C' S' x' y = QA C S x kr ((Rect.unit (s := S4096x256) ![0, 0] S4096x128.size inb_front).emb y) := by
  subst hC; subst hS; subst hx
  obtain ⟨a, b, rfl⟩ := exists_ix2 (a := 4096) (b := 128) y
  refine Eq.trans ?_ (congrArg (QA C' S' x' kr) (emb_ix2 0 0 4096 128 inb_front a b (by omega) (by omega))).symm
  have h1 : (((ix2 (⟨0 + a, by omega⟩ : Fin 4096) (⟨0 + b, by omega⟩ : Fin 256) : S4096x256.Idx)) 1 : ℕ) < 128 := by
    change 0 + (b : ℕ) < 128; omega
  rw [QA, dif_pos h1]
  have e : (ix2 (⟨0 + (a : ℕ), by omega⟩ : Fin 4096) (⟨0 + (b : ℕ), by omega⟩ : Fin 128) : S4096x128.Idx) = ix2 a b := by
    congr 1 <;> exact Fin.ext (Nat.zero_add _)
  exact (congrArg (k0_pay12 C' S' x') e).symm

section

variable (c : Dev nD)
  (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole)
  (arg6 : Memref sig .tc .vmem S4096x128 .f32) (harg6 : arg6.IsWhole) (arg7 : Memref sig .tc .vmem S4096x128 .f32) (harg7 : arg7.IsWhole)
  (x0 x1 x2 : Vec Ideal S1x4096x128 .bf16) (x4 x5 : Vec Ideal S4096x128 .f32)

theorem load_block (a : Memref sig .tc .vmem S1x4096x128 .bf16) (ha : a.IsWhole) (x : Vec Ideal S1x4096x128 .bf16)
    (inb : ∀ t, (![0, 0, 0] : Fin 3 → ℕ) t + S1x4096x128.size t ≤ S1x4096x128.size t) :
    View.readAt (Elt Ideal) a.view (Rect.unit (s := S1x4096x128) ![0, 0, 0] S1x4096x128.size inb).toLoadRect (ha.unread x) = x := by
  rw [View.readAt_eq_ld, ha.read_unread]
  exact View.ld_unit_zero (by funext t; fin_cases t <;> rfl) _ _

theorem load_table (a : Memref sig .tc .vmem S4096x128 .f32) (ha : a.IsWhole) (x : Vec Ideal S4096x128 .f32)
    (inb : ∀ t, (![0, 0] : Fin 2 → ℕ) t + S4096x128.size t ≤ S4096x128.size t) (h : Shape.ShapeCasts S4096x128 S4096x128) :
    (shapeCast S4096x128 (View.readAt (Elt Ideal) a.view (Rect.unit (s := S4096x128) ![0, 0] S4096x128.size inb).toLoadRect (ha.unread x) : Vec Ideal S4096x128 .f32) h
      : Vec Ideal S4096x128 .f32) = x := by
  rw [View.readAt_eq_ld, ha.read_unread, View.ld_unit_zero (by funext t; fin_cases t <;> rfl)]
  funext y
  obtain ⟨i, j, rfl⟩ := exists_ix2 (a := 4096) (b := 128) y
  pointwise

/-- The table of cosines is read whole. -/
theorem cos_eq : kernelRun0_A.sl.v1 c arg6 harg6 x4 = x4 := load_table arg6 harg6 x4 _ _

/-- The table of sines is read whole. -/
theorem sin_eq : kernelRun0_A.sl.v3 c arg7 harg7 x5 = x5 := load_table arg7 harg7 x5 _ _

/-- The keys are embedded as the queries are. -/
theorem key_eq : kernelRun0_A.sl.v19 c arg3 harg3 arg6 harg6 arg7 harg7 x1 x4 x5 = k0_pay11 x4 x5 x1 := by
  have h : kernelRun0_A.sl.v19 c arg3 harg3 arg6 harg6 arg7 harg7 x1 x4 x5
    = k0_pay11 (kernelRun0_A.sl.v1 c arg6 harg6 x4) (kernelRun0_A.sl.v3 c arg7 harg7 x5)
        (View.readAt (Elt Ideal) arg3.view (Rect.unit (s := S1x4096x128) ![0, 0, 0] S1x4096x128.size inb_S1x4096x128_S1x4096x128_0_0_0).toLoadRect (harg3.unread x1)) := rfl
  rw [h, cos_eq, sin_eq, load_block]

/-- The mask is computed from the embedded keys. -/
theorem bias_eq : kernelRun0_A.sl.r_6 c arg2 harg2 arg3 harg3 arg6 harg6 arg7 harg7 x0 x1 x4 x5 = KRoute.bias x4 x5 x0 (k0_pay11 x4 x5 x1) := by
  have h : kernelRun0_A.sl.r_6 c arg2 harg2 arg3 harg3 arg6 harg6 arg7 harg7 x0 x1 x4 x5
    = KRoute.bias (kernelRun0_A.sl.v1 c arg6 harg6 x4) (kernelRun0_A.sl.v3 c arg7 harg7 x5)
        (View.readAt (Elt Ideal) arg2.view (Rect.unit (s := S1x4096x128) ![0, 0, 0] S1x4096x128.size inb_S1x4096x128_S1x4096x128_0_0_0).toLoadRect (harg2.unread x0))
        (kernelRun0_A.sl.v19 c arg3 harg3 arg6 harg6 arg7 harg7 x1 x4 x5) := rfl
  rw [h, cos_eq, sin_eq, load_block, key_eq]

/-- Every store into the first scratch is a block of the queries in 256 lanes. -/
theorem HS0_pieces : View.PiecesOf (QA x4 x5 x0 (k0_pay11 x4 x5 x1)) (kernelRun0_A.sl.HS0_33 c arg2 harg2 arg3 harg3 arg6 harg6 arg7 harg7 x0 x1 x4 x5) := by
  have hB := bias_eq c arg2 harg2 arg3 harg3 arg6 harg6 arg7 harg7 x0 x1 x4 x5
  iterate 32 refine ⟨bias_piece _ (by omega) x4 x5 x0 _ _ hB _, ?_⟩
  exact ⟨q_piece x4 x5 x0 _ _ _ _ (cos_eq c arg6 harg6 x4) (sin_eq c arg7 harg7 x5) (load_block arg2 harg2 x0 _), trivial⟩

theorem inb_back (a : Fin 2) : (![0, 128] : Fin 2 → ℕ) a + S4096x128.size a ≤ S4096x256.size a := by
  fin_cases a
  · exact le_rfl
  · change 128 + 128 ≤ 256; omega

/-- A store over the front lanes, read at a row and a lane. -/
theorem front_piece (w : FVec Ideal S4096x128 .bf16) (G : S4096x256.Idx → EReal)
    (h : ∀ (i : Fin 4096) (d : Fin 128), w (ix2 i d) = G (ix2 i (⟨d, by omega⟩ : Fin 256)))
    (y : (Rect.unit (s := S4096x256) ![0, 0] S4096x128.size inb_front).shape.Idx) :
    w y = G ((Rect.unit (s := S4096x256) ![0, 0] S4096x128.size inb_front).emb y) := by
  obtain ⟨a, b, rfl⟩ := exists_ix2 (a := 4096) (b := 128) y
  refine (h a b).trans ((congrArg G ?_).trans (congrArg G (emb_ix2 0 0 4096 128 inb_front a b (by omega) (by omega))).symm)
  congr 1 <;> exact Fin.ext (Nat.zero_add _).symm

/-- A store over the back lanes, read at a row and a lane. -/
theorem back_piece (w : FVec Ideal S4096x128 .bf16) (G : S4096x256.Idx → EReal)
    (h : ∀ (i : Fin 4096) (d : Fin 128), w (ix2 i d) = G (ix2 i (⟨128 + d, by omega⟩ : Fin 256)))
    (y : (Rect.unit (s := S4096x256) ![0, 128] S4096x128.size inb_back).shape.Idx) :
    w y = G ((Rect.unit (s := S4096x256) ![0, 128] S4096x128.size inb_back).emb y) := by
  obtain ⟨a, b, rfl⟩ := exists_ix2 (a := 4096) (b := 128) y
  refine (h a b).trans ((congrArg G ?_).trans (congrArg G (emb_ix2 0 128 4096 128 inb_back a b (by omega) (by omega))).symm)
  congr 1
  exact Fin.ext (Nat.zero_add _).symm

/-- The lane of a key's block holds 1, the others 0. -/
theorem onehot_apply (i : Fin 4096) (d : Fin 128) :
    (kernelRun0_A.sl.v31 : FVec Ideal S4096x128 .bf16) (ix2 i d) = if (d : ℕ) = i / 256 then 1 else 0 := by
  have h : (kernelRun0_A.sl.v31 : FVec Ideal S4096x128 .bf16) = k0_pay6 := rfl
  rw [h]
  pointwise [k0_pay6]
  rw [KRoute.shr8_small _ (by omega), Words.eq_small _ _ (by omega) (by omega)]
  by_cases h : (d : ℕ) = i / 256
  · rw [if_pos h, decide_eq_true h.symm]; rfl
  · rw [if_neg h, decide_eq_false (fun e => h e.symm)]; rfl

/-- Every store into the second scratch is a block of the keys in 256 lanes. -/
theorem HS1_pieces : View.PiecesOf (KA (k0_pay11 x4 x5 x1)) (kernelRun0_A.sl.HS1_2 c arg3 harg3 arg6 harg6 arg7 harg7 x1 x4 x5) := by
  refine ⟨back_piece _ _ fun i d => ?_, front_piece _ _ fun i d => ?_, trivial⟩
  · refine Eq.trans ?_ (dif_neg (show ¬ 128 + (d : ℕ) < 128 by omega)).symm
    refine (onehot_apply i d).trans ?_
    have e : 128 + (d : ℕ) - 128 = d := by omega
    change _ = if 128 + (d : ℕ) - 128 = (i : ℕ) / 256 then (1 : EReal) else 0
    rw [e]
  · refine Eq.trans ?_ (dif_pos (show (d : ℕ) < 128 from d.isLt)).symm
    rw [← key_eq c arg3 harg3 arg6 harg6 arg7 harg7 x1 x4 x5]
    change kernelRun0_A.sl.v23 c arg3 harg3 arg6 harg6 arg7 harg7 x1 x4 x5 (ix2 i d) = _
    pointwise [kernelRun0_A.sl.v23, kernelRun0_A.sl.v20]

/-- Every store into the third scratch is a block of the values in 256 lanes. -/
theorem HS2_pieces : View.PiecesOf (VA x2) (kernelRun0_A.sl.HS2_2 (F := Ideal) c arg4 harg4 x2) := by
  refine ⟨back_piece _ _ fun i d => ?_, front_piece _ _ fun i d => ?_, trivial⟩
  · refine Eq.trans ?_ (dif_neg (show ¬ 128 + (d : ℕ) < 128 by omega)).symm
    change k0_pay9 (F := Ideal) (ix2 i d) = _
    pointwise [k0_pay9]
  · refine Eq.trans ?_ (dif_pos (show (d : ℕ) < 128 from d.isLt)).symm
    change k0_pay8 (kernelRun0_A.sl.v33 (F := Ideal) c arg4 harg4 x2) (ix2 i d) = _
    have h : kernelRun0_A.sl.v33 (F := Ideal) c arg4 harg4 x2 = shapeCast S4096x128 x2 shapeCasts_S1x4096x128_S4096x128 := by
      unfold kernelRun0_A.sl.v33
      rw [load_block]
    rw [h]
    pointwise [k0_pay8]

theorem HS0_cover (y : S4096x256.Idx) :
    ∃ p ∈ kernelRun0_A.sl.HS0_33 c arg2 harg2 arg3 harg3 arg6 harg6 arg7 harg7 x0 x1 x4 x5, y ∈ p.1.set :=
  View.cover_of_tiledBy _ ![128, 128] (by sl_kernel_rfl) y

theorem HS1_cover (y : S4096x256.Idx) :
    ∃ p ∈ kernelRun0_A.sl.HS1_2 c arg3 harg3 arg6 harg6 arg7 harg7 x1 x4 x5, y ∈ p.1.set :=
  View.cover_of_tiledBy _ ![4096, 128] (by sl_kernel_rfl) y

theorem HS2_cover (y : S4096x256.Idx) :
    ∃ p ∈ kernelRun0_A.sl.HS2_2 (F := Ideal) c arg4 harg4 x2, y ∈ p.1.set :=
  View.cover_of_tiledBy _ ![4096, 128] (by sl_kernel_rfl) y

/-- A load from the first scratch reads the queries in 256 lanes. -/
theorem read0 (a : Memref sig .tc .vmem S4096x256 .bf16) (B : LoadRect S4096x256) (y : B.shape.Idx) :
    a.view.readCov (kernelRun0_A.sl.HS0_33 c arg2 harg2 arg3 harg3 arg6 harg6 arg7 harg7 x0 x1 x4 x5) B y
      = QA x4 x5 x0 (k0_pay11 x4 x5 x1) (B.idx y) := by
  rw [View.readCov_eq_canon']
  exact View.canon_apply_of_pieces _ _ (HS0_pieces c arg2 harg2 arg3 harg3 arg6 harg6 arg7 harg7 x0 x1 x4 x5).mem _
    (HS0_cover c arg2 harg2 arg3 harg3 arg6 harg6 arg7 harg7 x0 x1 x4 x5 _)

/-- A load from the second scratch reads the keys in 256 lanes. -/
theorem read1 (a : Memref sig .tc .vmem S4096x256 .bf16) (B : LoadRect S4096x256) (y : B.shape.Idx) :
    a.view.readCov (kernelRun0_A.sl.HS1_2 c arg3 harg3 arg6 harg6 arg7 harg7 x1 x4 x5) B y = KA (k0_pay11 x4 x5 x1) (B.idx y) := by
  rw [View.readCov_eq_canon']
  exact View.canon_apply_of_pieces _ _ (HS1_pieces c arg3 harg3 arg6 harg6 arg7 harg7 x1 x4 x5).mem _
    (HS1_cover c arg3 harg3 arg6 harg6 arg7 harg7 x1 x4 x5 _)

/-- A load from the third scratch reads the values in 256 lanes. -/
theorem read2 (a : Memref sig .tc .vmem S4096x256 .bf16) (B : LoadRect S4096x256) (y : B.shape.Idx) :
    a.view.readCov (kernelRun0_A.sl.HS2_2 (F := Ideal) c arg4 harg4 x2) B y = VA x2 (B.idx y) := by
  rw [View.readCov_eq_canon']
  exact View.canon_apply_of_pieces _ _ (HS2_pieces c arg4 harg4 x2).mem _ (HS2_cover c arg4 harg4 x2 _)

theorem inb_rows {n a : ℕ} (h : n + a ≤ 4096) (t : Fin 2) : (![n, 0] : Fin 2 → ℕ) t + (Tile.Sh a 256).size t ≤ S4096x256.size t := by
  fin_cases t
  · exact h
  · exact le_rfl

theorem inb_out {n : ℕ} (h : n + 256 ≤ 4096) (t : Fin 3) : (![0, n, 0] : Fin 3 → ℕ) t + S1x256x128.size t ≤ S1x4096x128.size t := by
  fin_cases t
  · exact le_rfl
  · exact h
  · exact le_rfl

variable {q k : Fin 4096 → Fin 128 → ℝ}

/-- The block a grid point is to leave: the gated attention of every row. -/
noncomputable def G (q k : Fin 4096 → Fin 128 → ℝ) (x2 x3 : Vec Ideal S1x4096x128 .bf16) (y : S1x4096x128.Idx) : EReal :=
  result q k (fun j => x2 (ix3 0 j (y 2 : Fin 128))) (x3 (ix3 0 (y 1 : Fin 4096) (y 2 : Fin 128))) (y 1 : Fin 4096)

theorem exists_ix3 {a b d : ℕ} (x : (⟨3, ![a, b, d]⟩ : Shape).Idx) : ∃ (i : Fin a) (j : Fin b) (l : Fin d), x = ix3 i j l :=
  ⟨x 0, x 1, x 2, by funext t; fin_cases t <;> rfl⟩

theorem emb_ix3 {n : ℕ} (h : n + 256 ≤ 4096) (u : Fin 1) (r : Fin 256) (d : Fin 128) :
    (Rect.unit (s := S1x4096x128) ![0, n, 0] S1x256x128.size (inb_out h)).idx (ix3 u r d) = (ix3 0 (⟨n + r, by omega⟩ : Fin 4096) d : S1x4096x128.Idx) := by
  funext t
  refine Fin.ext ?_
  fin_cases t
  · change 0 + 1 * (u : ℕ) = 0; omega
  · change n + 1 * (r : ℕ) = n + r; omega
  · change 0 + 1 * (d : ℕ) = d; omega

/-- The gate's block read at a row and a lane. -/
theorem read_z {n : ℕ} (h : n + 256 ≤ 4096) (a : Memref sig .tc .vmem S1x4096x128 .bf16) (ha : a.IsWhole) (x : Vec Ideal S1x4096x128 .bf16) (r : Fin 256) (d : Fin 128) :
    View.readAt (Elt Ideal) a.view (Rect.unit (s := S1x4096x128) ![0, n, 0] S1x256x128.size (inb_out h)).toLoadRect (ha.unread x) (ix3 0 r d)
      = x (ix3 0 (⟨n + r, by omega⟩ : Fin 4096) d) := by
  rw [View.readAt_eq_ld, ha.read_unread]
  exact congrArg x (emb_ix3 h 0 r d)

/-- A block of rows after `n` keys is a block of what the grid point is to leave. -/
theorem tile_piece (n N : ℕ) (hn : n % 256 = 0) (hN : N = n + 256) (hN' : N ≤ 4096)
    (hq : ∀ i d, k0_pay11 x4 x5 x0 (ix2 i d) = (q i d : EReal)) (hk : ∀ i d, k0_pay11 x4 x5 x1 (ix2 i d) = (k i d : EReal))
    (hc : Shape.Concatenates [Tile.Sh 256 n, Tile.Sh 256 256] (Tile.Sh 256 N) 1) (hr : (Tile.Sh 256 N).Reduces [1] ⟨1, ![256]⟩)
    (hs : Shape.ShapeCasts ⟨1, ![256]⟩ (Tile.Sh 256 1)) (hb : Shape.Broadcasts (Tile.Sh 256 1) (Tile.Sh 256 N))
    (a9 a10 a11 : Memref sig .tc .vmem S4096x256 .bf16) (a5 : Memref sig .tc .vmem S1x4096x128 .bf16) (ha5 : a5.IsWhole)
    (x3 : Vec Ideal S1x4096x128 .bf16)
    (w : Vec Ideal S1x256x128 .bf16)
    (hw : w = Tile.out N (Tile.expo N hr hs hb (Tile.scores n N hc
        (a9.view.readCov (kernelRun0_A.sl.HS0_33 c arg2 harg2 arg3 harg3 arg6 harg6 arg7 harg7 x0 x1 x4 x5)
          (Rect.unit (s := S4096x256) ![n, 0] (Tile.Sh 256 256).size (inb_rows (by omega))).toLoadRect)
        (a10.view.readCov (kernelRun0_A.sl.HS1_2 c arg3 harg3 arg6 harg6 arg7 harg7 x1 x4 x5)
          (Rect.unit (s := S4096x256) ![n, 0] (Tile.Sh 256 256).size (inb_rows (by omega))).toLoadRect)
        (a10.view.readCov (kernelRun0_A.sl.HS1_2 c arg3 harg3 arg6 harg6 arg7 harg7 x1 x4 x5)
          (Rect.unit (s := S4096x256) ![0, 0] (Tile.Sh n 256).size (inb_rows (by omega))).toLoadRect)))
      (a11.view.readCov (kernelRun0_A.sl.HS2_2 (F := Ideal) c arg4 harg4 x2)
          (Rect.unit (s := S4096x256) ![0, 0] (Tile.Sh N 256).size (inb_rows (by omega))).toLoadRect)
      (View.readAt (Elt Ideal) a5.view (Rect.unit (s := S1x4096x128) ![0, n, 0] S1x256x128.size (inb_out (by omega))).toLoadRect (ha5.unread x3)))
    (y : (Rect.unit (s := S1x4096x128) ![0, n, 0] S1x256x128.size (inb_out (by omega))).shape.Idx) :
    w y
    = G q k x2 x3 ((Rect.unit (s := S1x4096x128) ![0, n, 0] S1x256x128.size (inb_out (by omega))).emb y) := by
  obtain ⟨u, r, d, rfl⟩ := exists_ix3 (a := 1) (b := 256) (d := 128) y
  subst hw
  refine Eq.trans ?_ (congrArg (G q k x2 x3) (emb_ix3 (n := n) (by omega) u r d)).symm
  have hrow : ∀ (a : ℕ) (r : Fin a) (h : 0 + a ≤ 4096) (cc : Fin 256),
      (Rect.unit (s := S4096x256) ![0, 0] (Tile.Sh a 256).size (inb_rows h)).idx (ix2 r cc) = (ix2 (⟨(r : ℕ), by omega⟩ : Fin 4096) cc : S4096x256.Idx) := by
    intro a r h cc
    refine (emb_ix2 0 0 a 256 _ r cc (by omega) (by omega)).trans ?_
    congr 1 <;> exact Fin.ext (Nat.zero_add _)
  have hrow' : ∀ (r : Fin 256) (h : n + 256 ≤ 4096) (cc : Fin 256),
      (Rect.unit (s := S4096x256) ![n, 0] (Tile.Sh 256 256).size (inb_rows h)).idx (ix2 r cc) = (ix2 (⟨n + (r : ℕ), by omega⟩ : Fin 4096) cc : S4096x256.Idx) := by
    intro r h cc
    refine (emb_ix2 n 0 256 256 _ r cc (by omega) (by omega)).trans ?_
    congr 1; exact Fin.ext (Nat.zero_add _)
  refine (out_of_score (q := q) (k := k) (v := fun j d => x2 (ix3 0 j d)) N hN' hr hs hb _ _ _ u r d ⟨n + r, by omega⟩ (by change n + (r : ℕ) < N; omega)
    (fun l => scores_eq hq hk n N hn hN hN' hc _ _ _ (fun r cc => ?_) (fun r cc => ?_) (fun r cc => ?_) r l) (fun l => ?_) (fun l => ?_)).trans ?_
  · rw [read0]; exact congrArg _ (hrow' r (by omega) cc)
  · rw [read1]; exact congrArg _ (hrow' r (by omega) cc)
  · rw [read1]; exact congrArg _ (hrow n r (by omega) cc)
  · rw [read2]; refine (congrArg _ (hrow N l (by omega) _)).trans ?_
    exact dif_pos d.isLt
  · rw [read2]; refine (congrArg _ (hrow N l (by omega) _)).trans ?_
    exact dif_neg (by change ¬ 128 + (d : ℕ) < 128; omega)
  · rw [read_z (n := n) (by omega)]
    rfl

/-- The first block of rows is a block of what the grid point is to leave. -/
theorem first_piece
    (hq : ∀ i d, k0_pay11 x4 x5 x0 (ix2 i d) = (q i d : EReal)) (hk : ∀ i d, k0_pay11 x4 x5 x1 (ix2 i d) = (k i d : EReal))
    (a9 a10 a11 : Memref sig .tc .vmem S4096x256 .bf16) (a5 : Memref sig .tc .vmem S1x4096x128 .bf16) (ha5 : a5.IsWhole)
    (x3 : Vec Ideal S1x4096x128 .bf16)
    (y : (Rect.unit (s := S1x4096x128) ![0, 0, 0] S1x256x128.size (inb_out (by omega))).shape.Idx) :
    Tile.out 256 (Tile.expo 256 reduces_S256x256_S256 shapeCasts_S256_S256x1 broadcasts_S256x1_S256x256 (Tile.own
        (a9.view.readCov (kernelRun0_A.sl.HS0_33 c arg2 harg2 arg3 harg3 arg6 harg6 arg7 harg7 x0 x1 x4 x5)
          (Rect.unit (s := S4096x256) ![0, 0] (Tile.Sh 256 256).size (inb_rows (by omega))).toLoadRect)
        (a10.view.readCov (kernelRun0_A.sl.HS1_2 c arg3 harg3 arg6 harg6 arg7 harg7 x1 x4 x5)
          (Rect.unit (s := S4096x256) ![0, 0] (Tile.Sh 256 256).size (inb_rows (by omega))).toLoadRect)))
      (a11.view.readCov (kernelRun0_A.sl.HS2_2 (F := Ideal) c arg4 harg4 x2)
          (Rect.unit (s := S4096x256) ![0, 0] (Tile.Sh 256 256).size (inb_rows (by omega))).toLoadRect)
      (View.readAt (Elt Ideal) a5.view (Rect.unit (s := S1x4096x128) ![0, 0, 0] S1x256x128.size (inb_out (by omega))).toLoadRect (ha5.unread x3)) y
    = G q k x2 x3 ((Rect.unit (s := S1x4096x128) ![0, 0, 0] S1x256x128.size (inb_out (by omega))).emb y) := by
  obtain ⟨u, r, d, rfl⟩ := exists_ix3 (a := 1) (b := 256) (d := 128) y
  have e0 : (⟨0 + (r : ℕ), by omega⟩ : Fin 4096) = ⟨r, by omega⟩ := Fin.ext (Nat.zero_add _)
  refine Eq.trans ?_ (congrArg (G q k x2 x3) ((emb_ix3 (n := 0) (by omega) u r d).trans (congrArg (fun t => (ix3 0 t d : S1x4096x128.Idx)) e0))).symm
  have hrow : ∀ (r : Fin 256) (cc : Fin 256),
      (Rect.unit (s := S4096x256) ![0, 0] (Tile.Sh 256 256).size (inb_rows (by omega))).idx (ix2 r cc) = (ix2 (⟨(r : ℕ), by omega⟩ : Fin 4096) cc : S4096x256.Idx) := by
    intro r cc
    refine (emb_ix2 0 0 256 256 _ r cc (by omega) (by omega)).trans ?_
    congr 1 <;> exact Fin.ext (Nat.zero_add _)
  refine (out_of_score (q := q) (k := k) (v := fun j d => x2 (ix3 0 j d)) 256 (by omega) _ _ _ _ _ _ u r d ⟨r, by omega⟩ r.isLt
    (fun l => own_eq hq hk _ _ (fun r cc => ?_) (fun r cc => ?_) r l) (fun l => ?_) (fun l => ?_)).trans ?_
  · rw [read0]; exact congrArg _ (hrow r cc)
  · rw [read1]; exact congrArg _ (hrow r cc)
  · rw [read2]; refine (congrArg _ (hrow l _)).trans ?_
    exact dif_pos d.isLt
  · rw [read2]; refine (congrArg _ (hrow l _)).trans ?_
    exact dif_neg (by change ¬ 128 + (d : ℕ) < 128; omega)
  · rw [read_z (n := 0) (by omega), e0]
    rfl

variable (i : grid0.Coords) (arg5 : Memref sig .tc .vmem S1x4096x128 .bf16) (harg5 : arg5.IsWhole)
  (arg8 : Memref sig .tc .vmem S1x4096x128 .bf16) (harg8 : arg8.IsWhole)
  (arg9 : Memref sig .tc .vmem S4096x256 .bf16) (harg9 : arg9.IsWhole) (arg10 : Memref sig .tc .vmem S4096x256 .bf16) (harg10 : arg10.IsWhole)
  (arg11 : Memref sig .tc .vmem S4096x256 .bf16) (harg11 : arg11.IsWhole) (x3 : Vec Ideal S1x4096x128 .bf16)

/-- Every store into the output block is a block of what the grid point is to leave. -/
theorem out_pieces
    (hq : ∀ i d, k0_pay11 x4 x5 x0 (ix2 i d) = (q i d : EReal)) (hk : ∀ i d, k0_pay11 x4 x5 x1 (ix2 i d) = (k i d : EReal)) :
    View.PiecesOf (G q k x2 x3) (kernelRun0_A c i arg2 harg2 arg3 harg3 arg4 harg4 arg5 harg5 arg6 harg6 arg7 harg7 arg8 harg8
      arg9 harg9 arg10 harg10 arg11 harg11 x0 x1 x2 x3 x4 x5).1 := by
  refine ⟨first_piece c arg2 harg2 arg3 harg3 arg4 harg4 arg6 harg6 arg7 harg7 x0 x1 x2 x4 x5 hq hk arg9 arg10 arg11 arg5 harg5 x3, ?_⟩
  have T := fun (n N : ℕ) hn hN hN' hc hr hs hb w hw => tile_piece c arg2 harg2 arg3 harg3 arg4 harg4 arg6 harg6 arg7 harg7 x0 x1 x2 x4 x5 n N
    hn hN hN' hq hk hc hr hs hb arg9 arg10 arg11 arg5 harg5 x3 w hw
  refine ⟨T 256 512 ?_ ?_ ?_ ?_ ?_ ?_ ?_ _ ?_, T 512 768 ?_ ?_ ?_ ?_ ?_ ?_ ?_ _ ?_, T 768 1024 ?_ ?_ ?_ ?_ ?_ ?_ ?_ _ ?_,
    T 1024 1280 ?_ ?_ ?_ ?_ ?_ ?_ ?_ _ ?_, T 1280 1536 ?_ ?_ ?_ ?_ ?_ ?_ ?_ _ ?_, T 1536 1792 ?_ ?_ ?_ ?_ ?_ ?_ ?_ _ ?_,
    T 1792 2048 ?_ ?_ ?_ ?_ ?_ ?_ ?_ _ ?_, T 2048 2304 ?_ ?_ ?_ ?_ ?_ ?_ ?_ _ ?_, T 2304 2560 ?_ ?_ ?_ ?_ ?_ ?_ ?_ _ ?_,
    T 2560 2816 ?_ ?_ ?_ ?_ ?_ ?_ ?_ _ ?_, T 2816 3072 ?_ ?_ ?_ ?_ ?_ ?_ ?_ _ ?_, T 3072 3328 ?_ ?_ ?_ ?_ ?_ ?_ ?_ _ ?_,
    T 3328 3584 ?_ ?_ ?_ ?_ ?_ ?_ ?_ _ ?_, T 3584 3840 ?_ ?_ ?_ ?_ ?_ ?_ ?_ _ ?_, T 3840 4096 ?_ ?_ ?_ ?_ ?_ ?_ ?_ _ ?_, trivial⟩
  all_goals first | omega | decide | rfl

/-- A grid point leaves the gated attention of its rows. -/
theorem out_eq
    (hq : ∀ i d, k0_pay11 x4 x5 x0 (ix2 i d) = (q i d : EReal)) (hk : ∀ i d, k0_pay11 x4 x5 x1 (ix2 i d) = (k i d : EReal)) :
    out0_A_6 c i arg2 harg2 arg3 harg3 arg4 harg4 arg5 harg5 arg6 harg6 arg7 harg7 arg8 harg8
      arg9 harg9 arg10 harg10 arg11 harg11 x0 x1 x2 x3 x4 x5 = G q k x2 x3 := by
  unfold out0_A_6
  rw [View.read_writes_eq_canon]
  · funext y
    exact View.canon_apply_of_pieces _ _ (out_pieces c arg2 harg2 arg3 harg3 arg4 harg4 arg6 harg6 arg7 harg7 x0 x1 x2 x4 x5 i arg5 harg5 arg8 harg8
      arg9 harg9 arg10 harg10 arg11 harg11 x3 hq hk).mem _ (cover0_A_6 ..)
  · exact cover0_A_6 c i arg2 harg2 arg3 harg3 arg4 harg4 arg5 harg5 arg6 harg6 arg7 harg7 arg8 harg8
      arg9 harg9 arg10 harg10 arg11 harg11 x0 x1 x2 x3 x4 x5

end

end Cert.KPoint
-- ==== Proof.RefA.lean ====
/-
  The reference, stage by stage: the embedded queries and keys, the values, and the block scores.
-/
module
public import proofs.«01_k».proof.Proof.Gen.ReferenceIdeal.Run
public import proofs.«01_k».proof.Proof.Gen.ReferenceIdeal.Read
public import proofs.«01_k».proof.Proof.Spec
public import proofs.«01_k».proof.Proof.Words
public import Idealize.ShloMosaic.Lib.Pointwise

@[expose] public section

set_option maxRecDepth 16384

namespace Cert.RefA

open Idealize.ShloMosaic Cert.ReferenceIdeal Cert.ReferenceIdeal.Gen Cert.ReferenceIdeal.Read Cert.Spec
open scoped BigOperators

/-- The angle of a position and a pair of lanes. -/
noncomputable def ang (i : Fin 4096) (e : Fin 16) : ℝ := (i : ℝ) * Real.rpow 500000 (-(e : ℝ) * (1 / 16))

theorem sitofp_small (a : ℕ) (ha : a < 2147483648) : FloatOps.sitofp (F := Ideal) .f32 (BitVec.ofNat 32 a) = ((a : ℝ) : EReal) := by
  show (((BitVec.ofNat 32 a).toInt : ℝ) : EReal) = _
  rw [Words.toInt_small a ha]
  simp

theorem ofBits_base : Ideal.ofBits .f32 0x48F42400#32 = ((500000 : ℝ) : EReal) := by
  simp [Ideal.ofBits, Ideal.ieee]; norm_cast; norm_num

theorem ofBits_sixteenth : Ideal.ofBits .f32 0x3D800000#32 = ((1 / 16 : ℝ) : EReal) := by
  simp [Ideal.ofBits, Ideal.ieee]; norm_cast; norm_num

theorem ang_apply (i : Fin 4096) (e : Fin 16) : val_main_v19 (F := Ideal) (ix2 i e) = (ang i e : EReal) := by
  pointwise [val_main_v19, val_main_v18, val_main_v17, val_main_v16, val_main_v15, val_main_v14, val_main_v13, val_main_v12, val_main_v11, val_main_v10, val_main_v9, val_main_v8,
    val_main_cst_0, val_main_cst, val_main_v5]
  rw [sitofp_small _ (by omega), sitofp_small _ (by omega), ofBits_base, ofBits_sixteenth, ← EReal.coe_neg, ← EReal.coe_mul, Ideal.pow_coe_coe, ← EReal.coe_mul]
  rfl

/-- The embedding read from one row, lane by lane. -/
theorem rope_of {qr : Fin 4096 → Fin 128 → ℝ} (t : S4096x16.Idx → EReal) (ht : ∀ i e, t (ix2 i e) = (ang i e : EReal)) (i : Fin 4096) (d : Fin 128) (f : (n : ℕ) → n < 128 → EReal) (hf : ∀ n hn, f n hn = (qr i ⟨n, hn⟩ : EReal)) :
    (if _ : (d : ℕ) < 32 then
        if _ : (d : ℕ) < 16 then
          f d (by omega) * Ideal.cos (t (ix2 i ⟨d, by omega⟩)) - f (16 + d) (by omega) * Ideal.sin (t (ix2 i ⟨d, by omega⟩))
        else
          f (16 + ((d : ℕ) - 16)) (by omega) * Ideal.cos (t (ix2 i ⟨(d : ℕ) - 16, by omega⟩))
            + f ((d : ℕ) - 16) (by omega) * Ideal.sin (t (ix2 i ⟨(d : ℕ) - 16, by omega⟩))
      else f (32 + ((d : ℕ) - 32)) (by omega))
      = (rope (fun i e => Real.cos (ang i e)) (fun i e => Real.sin (ang i e)) qr i d : EReal) := by
  unfold rope
  simp only [hf, ht, Ideal.cos_coe, Ideal.sin_coe, ← EReal.coe_mul, ← EReal.coe_sub, ← EReal.coe_add]
  by_cases h1 : (d : ℕ) < 16
  · rw [dif_pos (by omega), dif_pos h1, dif_pos h1]
    have e : (⟨16 + (d : ℕ), by omega⟩ : Fin 128) = ⟨d + 16, by omega⟩ := Fin.ext (Nat.add_comm _ _)
    simp only [e, Fin.eta]
  · by_cases h2 : (d : ℕ) < 32
    · have e : (⟨16 + ((d : ℕ) - 16), by omega⟩ : Fin 128) = d := Fin.ext (by change 16 + ((d : ℕ) - 16) = d; omega)
      rw [dif_pos h2, dif_neg h1, dif_neg h1, dif_pos h2]
      simp only [e]
    · have e : (⟨32 + ((d : ℕ) - 32), by omega⟩ : Fin 128) = d := Fin.ext (by change 32 + ((d : ℕ) - 32) = d; omega)
      rw [dif_neg h2, dif_neg h1, dif_neg h2]
      simp only [e]

section

variable (x : (⟨S8x4096x10240, .bf16⟩ : BufTy).Contents (Elt Ideal)) (b h : Fin 8)

/-- Part `p` (queries, keys, values, gates) of a head's activations. -/
def part (p : Fin 4) (i : Fin 4096) (d : Fin 128) : EReal := x (ix3 b i (⟨(p : ℕ) * 1024 + (h : ℕ) * 128 + (d : ℕ), by omega⟩ : Fin 10240))

theorem v82_apply (m : Fin 16) (r : Fin 256) (d : Fin 128) : val_main_v82 (F := Ideal) x (ix5 b h m r d) = part x b h 2 (pos m r) d := by
  pointwise [val_main_v82, val_main_v81, val_main_v80, val_main_v3, val_main_v0]
  refine congrArg (fun t => x (ix3 b (pos m r) t)) (Fin.ext ?_)
  change 2048 + ((h : ℕ) * 128 + d) = 2 * 1024 + h * 128 + d
  omega

theorem v41_apply (i : Fin 4096) (d : Fin 128) (qr : Fin 4096 → Fin 128 → ℝ) (hq : ∀ i d, part x b h 0 i d = (qr i d : EReal)) :
    val_main_v41 (F := Ideal) x (ix4 b h i d) = (rope (fun i e => Real.cos (ang i e)) (fun i e => Real.sin (ang i e)) qr i d : EReal) := by
  pointwise [val_main_v41, val_main_v40, val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v7, val_main_v6, val_main_v1, val_main_v0]
  refine rope_of _ ang_apply i d (fun n hn => x (ix3 b i (⟨(h : ℕ) * 128 + n, by omega⟩ : Fin 10240))) fun n hn => (congrArg (fun t => x (ix3 b i t)) (Fin.ext ?_)).trans (hq i ⟨n, hn⟩)
  change (h : ℕ) * 128 + n = 0 * 1024 + h * 128 + n
  omega

theorem v78_apply (i : Fin 4096) (d : Fin 128) (kr : Fin 4096 → Fin 128 → ℝ) (hk : ∀ i d, part x b h 1 i d = (kr i d : EReal)) :
    val_main_v78 (F := Ideal) x (ix4 b h i d) = (rope (fun i e => Real.cos (ang i e)) (fun i e => Real.sin (ang i e)) kr i d : EReal) := by
  have ha : val_main_v56 (F := Ideal) = val_main_v19 := rfl
  pointwise [val_main_v78, val_main_v77, val_main_v76, val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58, val_main_v57,
    val_main_v44, val_main_v43, val_main_v2, val_main_v0]
  refine rope_of _ (fun i e => (congrFun ha _).trans (ang_apply i e)) i d (fun n hn => x (ix3 b i (⟨1024 + ((h : ℕ) * 128 + n), by omega⟩ : Fin 10240))) fun n hn => (congrArg (fun t => x (ix3 b i t)) (Fin.ext ?_)).trans (hk i ⟨n, hn⟩)
  change 1024 + ((h : ℕ) * 128 + n) = 1 * 1024 + h * 128 + n
  omega

end

end Cert.RefA
-- ==== Proof.RefB.lean ====
/-
  The reference, stage by stage: the block scores, the three blocks picked from them, and the keys and values gathered
  of those blocks.
-/
module
public import proofs.«01_k».proof.Proof.RefA

@[expose] public section

set_option maxRecDepth 16384

namespace Cert.RefB

open Idealize.ShloMosaic Cert.ReferenceIdeal Cert.ReferenceIdeal.Gen Cert.ReferenceIdeal.Read Cert.Spec
open scoped BigOperators

section

variable (x : BufTy.Contents (Elt Ideal) { shape := S8x4096x10240, elt := .bf16 }) (b h : Fin 8)

theorem v42_apply (m : Fin 16) (r : Fin 256) (d : Fin 128) : val_main_v42 (F := Ideal) x (ix5 b h m r d) = val_main_v41 (F := Ideal) x (ix4 b h (pos m r) d) := by
  pointwise [val_main_v42]
  rfl

theorem v79_apply (m : Fin 16) (r : Fin 256) (d : Fin 128) : val_main_v79 (F := Ideal) x (ix5 b h m r d) = val_main_v78 (F := Ideal) x (ix4 b h (pos m r) d) := by
  pointwise [val_main_v79]
  rfl

variable {q k : Fin 4096 → Fin 128 → ℝ} (hq : ∀ i d, val_main_v41 (F := Ideal) x (ix4 b h i d) = (q i d : EReal))
  (hk : ∀ i d, val_main_v78 (F := Ideal) x (ix4 b h i d) = (k i d : EReal))

include hk in
theorem v87_apply (m : Fin 16) (d : Fin 128) : val_main_v87 (F := Ideal) x (ix4 b h m d) = (((∑ l, k (pos m l) d) / 256 : ℝ) : EReal) := by
  pointwise [val_main_v87, val_main_v86, val_main_cst_6]
  rw [val_main_v85_apply]
  have e : ∀ l, idx_main_v85 (ix4 b h m d) l = ix5 b h m l d := fun l => by funext a; fin_cases a <;> rfl
  have h0 : val_main_cst_5 (F := Ideal) (Shape.Idx.first h_S_) = 0 := Ideal.ofBits_zero_f32
  simp only [e, v79_apply, hk, h0, zero_add, Words.ofBits_256]
  rw [Attn.coe_sum, Ideal.div_coe (by norm_num), ← EReal.coe_mul, mul_one_div]

include hq hk in
theorem v89_apply (m : Fin 16) (r : Fin 256) (m' : Fin 16) : val_main_v89 (F := Ideal) x (ix5 b h m r m') = (gate q k (pos m r) m' : EReal) := by
  rw [val_main_v89_apply]
  have e : ∀ d, lidx_main_v89 (ix5 b h m r m') d = ix5 b h m r d := fun d => by funext a; fin_cases a <;> rfl
  have e' : ∀ d, ridx_main_v89 (ix5 b h m r m') d = ix4 b h m' d := fun d => by funext a; fin_cases a <;> rfl
  simp only [e, e', v42_apply, v87_apply x b h hk, hq, ← EReal.coe_mul]
  rw [Attn.coe_sum]
  exact congrArg _ (Finset.sum_congr rfl fun d _ => mul_comm _ _)

include hq hk in
theorem v96_apply (m : Fin 16) (r : Fin 256) (m' : Fin 16) : val_main_v96 (F := Ideal) x (ix5 b h m r m') = gateRow q k (pos m r) m' := by
  pointwise [val_main_v96, val_main_call0_v2, val_main_call0_v1, val_main_call0_v0, val_main_cst_7, val_main_v95, val_main_v94, val_main_v93, val_main_v92, val_main_v91, val_main_v90, val_main_v88]
  have hb : (id (constant S_ .f32 0xFF800000#32) : S_.Idx → Ideal .f32) ix0 = (⊥ : EReal) := Words.ofBits_neg_inf
  have hm : blk (pos m r) = m := Fin.ext (by change ((m : ℕ) * 256 + r) / 256 = m; omega)
  rw [hb, v89_apply x b h hq hk, Words.slt_small _ _ (by omega) (by omega), Scalar.select_ofBool]
  unfold gateRow
  rw [hm]
  by_cases hc : (m' : ℕ) < m
  · rw [if_pos (by simpa using hc), if_pos (Fin.lt_def.mpr hc)]
  · rw [if_neg (by simpa using hc), if_neg fun h => hc (Fin.lt_def.mp h)]

/-! ## The blocks picked -/

/-- The entry in place `l` of a row of block scores put in descending order. -/
noncomputable def srt (g : Fin 16 → EReal) (l : Fin 16) : Fin 16 := sortedFrom (fun a c => FloatOps.cmpfTotal (F := Ideal) (φ := .f32) .gt (g a) (g c) == 1#1) l

theorem rank_srt (g : Fin 16 → EReal) (l : Fin 16) : Sel.rank g (srt g l) = l := by
  classical
  refine Sel.rank_sortedFrom g _ (fun a c => ?_) l
  show (BitVec.ofBool (decide (g c < g a)) == 1#1) = _
  by_cases hc : g c < g a
  · simp [hc]
  · simp [hc]

theorem topK_apply (g : S8x8x16x256x16.Idx → EReal) (hf : S8x8x16x256x16.Slices (fun _ => 0) S8x8x16x256x3) (m : Fin 16) (r : Fin 256) (l : Fin 3) :
    (Host.topK S8x8x16x256x3 4 (FloatOps.cmpfTotal (F := Ideal) (φ := .f32) .gt) g hf).2 (ix5 b h m r l) = BitVec.ofNat 32 (srt (fun a => g (ix5 b h m r a)) ⟨l, by omega⟩) := by
  have e : ∀ c a : Fin 16, Shape.Idx.along (s := S8x8x16x256x16) (ix5 b h m r c) 4 a = ix5 b h m r a := fun c a => by
    funext j; fin_cases j <;> rfl
  have key : ∀ J : S8x8x16x256x16.Idx, J = ix5 b h m r (⟨l, by omega⟩ : Fin 16) →
      BitVec.ofNat 32 ((J.along 4 (sortedFrom (fun a c => FloatOps.cmpfTotal (F := Ideal) (φ := .f32) .gt (g (J.along 4 a)) (g (J.along 4 c)) == 1#1) (J 4))) 4 : Fin 16)
        = BitVec.ofNat 32 (srt (fun a => g (ix5 b h m r a)) ⟨l, by omega⟩) := by
    intro J hJ
    have e' : ∀ a : Fin 16, J.along 4 a = ix5 b h m r a := fun a => by rw [hJ]; exact e _ a
    have e4 : J 4 = (⟨l, by omega⟩ : Fin 16) := by rw [hJ]; rfl
    rw [e4]
    refine (congrArg (fun X : S8x8x16x256x16.Idx => BitVec.ofNat 32 (X 4 : Fin 16)) (e' _)).trans ?_
    have hg : ∀ a : Fin 16, g (J.along 4 a) = g (ix5 b h m r a) := fun a => congrArg g (e' a)
    show BitVec.ofNat 32 (sortedFrom _ _ : Fin 16) = _
    unfold srt
    refine congrArg (fun p => BitVec.ofNat 32 (sortedFrom p (⟨l, by omega⟩ : Fin 16) : Fin 16)) ?_
    funext a c
    exact congrArg₂ (fun u v => FloatOps.cmpfTotal (F := Ideal) (φ := .f32) .gt u v == 1#1) (hg a) (hg c)
  exact key _ (by funext j; fin_cases j <;> exact Fin.ext (Nat.zero_add _))

theorem indices_apply (m : Fin 16) (r : Fin 256) (l : Fin 3) :
    val_main_indices (F := Ideal) x (ix5 b h m r l) = BitVec.ofNat 32 (srt (fun a => val_main_v96 (F := Ideal) x (ix5 b h m r a)) ⟨l, by omega⟩) :=
  topK_apply b h _ _ m r l

theorem gather_apply (y : S8x8x16x256x128.Idx → EReal) (z : IVec S8x8x16x256x3x1 32) (m : Fin 16) (r : Fin 256) (l : Fin 3) (t : Fin 256) (d : Fin 128) (j : Fin 16)
    (hj : z (ix6 b h m r l 0) = BitVec.ofNat 32 j) :
    Host.gather gather_S8x8x16x256x128_S8x8x16x256x3x1_S8x8x16x256x3x256x128_56_2_01_01_2_5_111256128 y z (ix7 b h m r l t d) = y (ix5 b h j t d) := by
  unfold Host.gather
  refine congrArg y ?_
  funext a
  refine Fin.ext ?_
  set D := gather_S8x8x16x256x128_S8x8x16x256x3x1_S8x8x16x256x3x256x128_56_2_01_01_2_5_111256128 with hD
  have hb : D.operandBatchingDims = [0, 1] := rfl
  have hs : D.startIndexMap = [2] := rfl
  have hc : D.collapsedSliceDims = [2] := rfl
  show D.start (ix7 b h m r l t d) z a + D.batchCoord (ix7 b h m r l t d) a + D.offCoord (ix7 b h m r l t d) a = _
  fin_cases a
  · rw [GatherDims.start_batching _ _ _ _ (by rw [hb]; decide), GatherDims.offCoord_eq_zero _ _ _ (fun h => ((GatherDims.mem_sKept _ _).mp h).2 (by rw [hb]; decide)), Nat.zero_add, Nat.add_zero]
    unfold GatherDims.batchCoord
    rw [dif_pos (by rw [hb]; decide)]
    rfl
  · rw [GatherDims.start_batching _ _ _ _ (by rw [hb]; decide), GatherDims.offCoord_eq_zero _ _ _ (fun h => ((GatherDims.mem_sKept _ _).mp h).2 (by rw [hb]; decide)), Nat.zero_add, Nat.add_zero]
    unfold GatherDims.batchCoord
    rw [dif_pos (by rw [hb]; decide)]
    rfl
  · rw [GatherDims.batchCoord_eq_zero _ _ _ (by rw [hb]; decide), GatherDims.offCoord_eq_zero _ _ _ (fun h => ((GatherDims.mem_sKept _ _).mp h).1 (by rw [hc]; decide)), Nat.add_zero]
    unfold GatherDims.start
    rw [dif_pos (by rw [hs]; decide)]
    have hz : ∀ J : S8x8x16x256x3x1.Idx, J = ix6 b h m r l 0 → min (z J).toInt.toNat 15 = j := by
      rintro J rfl
      rw [hj, Words.toInt_small _ (by omega)]
      simp only [Int.toNat_natCast]; omega
    exact hz _ (by funext c; fin_cases c <;> rfl)
  · rw [GatherDims.batchCoord_eq_zero _ _ _ (by rw [hb]; decide)]
    unfold GatherDims.start GatherDims.offCoord
    rw [dif_neg (by rw [hs]; decide), dif_pos ((GatherDims.mem_sKept _ _).mpr ⟨by rw [hc]; decide, by rw [hb]; decide⟩)]
    exact Nat.zero_add _
  · rw [GatherDims.batchCoord_eq_zero _ _ _ (by rw [hb]; decide)]
    unfold GatherDims.start GatherDims.offCoord
    rw [dif_neg (by rw [hs]; decide), dif_pos ((GatherDims.mem_sKept _ _).mpr ⟨by rw [hc]; decide, by rw [hb]; decide⟩)]
    exact Nat.zero_add _

end

end Cert.RefB
-- ==== Proof.RefC.lean ====
/-
  The reference, stage by stage: the masked scores of a row, over the keys of the three blocks picked and then of its own.
-/
module
public import proofs.«01_k».proof.Proof.RefB

@[expose] public section

set_option maxRecDepth 16384

namespace Cert.RefC

open Idealize.ShloMosaic Cert.ReferenceIdeal Cert.ReferenceIdeal.Gen Cert.ReferenceIdeal.Read Cert.Spec Cert.RefA Cert.RefB
open scoped BigOperators

section

variable (q k : Fin 4096 → Fin 128 → ℝ)

/-- The block in place `l` of the three picked for row `r` of block `m`. -/
noncomputable def sl (m : Fin 16) (r : Fin 256) (l : Fin 3) : Fin 16 := srt (gateRow q k (pos m r)) ⟨l, by omega⟩

/-- The key in column `c` of the row of scores: three picked blocks, then the own one. -/
noncomputable def slot (m : Fin 16) (r : Fin 256) (c : Fin 1024) : Fin 4096 :=
  if h : (c : ℕ) < 768 then pos (sl q k m r ⟨c / 256, by omega⟩) ⟨c % 256, by omega⟩ else pos m ⟨c - 768, by omega⟩

/-- The columns that are not masked. -/
def Open (m : Fin 16) (r : Fin 256) (c : Fin 1024) : Prop := if (c : ℕ) < 768 then (c : ℕ) / 256 < m else (c : ℕ) - 768 ≤ r

end

section

variable (x : BufTy.Contents (Elt Ideal) { shape := S8x4096x10240, elt := .bf16 }) (b h : Fin 8)
variable {q k : Fin 4096 → Fin 128 → ℝ} (hq : ∀ i d, val_main_v41 (F := Ideal) x (ix4 b h i d) = (q i d : EReal))
  (hk : ∀ i d, val_main_v78 (F := Ideal) x (ix4 b h i d) = (k i d : EReal))
variable (m : Fin 16) (r : Fin 256)

include hq hk

theorem idx_apply (l : Fin 3) : val_main_indices (F := Ideal) x (ix5 b h m r l) = BitVec.ofNat 32 (sl q k m r l) := by
  rw [indices_apply]
  unfold sl
  rw [show (fun a => val_main_v96 (F := Ideal) x (ix5 b h m r a)) = gateRow q k (pos m r) from funext fun a => v96_apply x b h hq hk m r a]

theorem v107_apply (l : Fin 3) : val_main_v107 (F := Ideal) x (ix5 b h m r l) = BitVec.ofNat 32 (sl q k m r l) := by
  have e : IntOp.cmpi .slt (BitVec.ofNat 32 (sl q k m r l)) 0#32 = BitVec.ofBool false := by
    refine (Words.slt_small _ 0 (by omega) (by omega)).trans ?_
    simp
  pointwise [val_main_v107, val_main_v106, val_main_v105, val_main_v104, val_main_v103, val_main_c_8, val_main_c]
  rw [idx_apply x b h hq hk, e, Scalar.select_ofBool]
  rfl

theorem v109_apply (l : Fin 3) (t : Fin 256) (d : Fin 128) : val_main_v109 (F := Ideal) x (ix7 b h m r l t d) = (k (pos (sl q k m r l) t) d : EReal) := by
  have e : val_main_v108 (F := Ideal) x (ix6 b h m r l 0) = BitVec.ofNat 32 (sl q k m r l) := by
    pointwise [val_main_v108]
    exact v107_apply x b h hq hk m r l
  exact (gather_apply b h _ _ m r l t d _ e).trans ((v79_apply x b h _ _ _).trans (hk _ _))

theorem v116_apply (l : Fin 3) (t : Fin 256) (d : Fin 128) : val_main_v116 (F := Ideal) x (ix7 b h m r l t d) = part x b h 2 (pos (sl q k m r l) t) d := by
  have e : val_main_v115 (F := Ideal) x (ix6 b h m r l 0) = BitVec.ofNat 32 (sl q k m r l) := by
    pointwise [val_main_v115]
    exact v107_apply x b h hq hk m r l
  exact (gather_apply b h _ _ m r l t d _ e).trans (v82_apply x b h _ _ _)

omit hq hk in
theorem scale_apply : val_main_v84 (F := Ideal) ix0 = (((Real.sqrt 128)⁻¹ : ℝ) : EReal) := by
  pointwise [val_main_v84, val_main_v83, val_main_cst_3, val_main_cst_4]
  rw [Words.ofBits_128, Ideal.sqrt_coe, if_neg (by norm_num), Ideal.div_coe (by positivity), one_mul, one_div]

theorem v117_apply (l : Fin 3) (t : Fin 256) : val_main_v117 (F := Ideal) x (ix6 b h m r l t) = ((∑ d, q (pos m r) d * k (pos (sl q k m r l) t) d : ℝ) : EReal) := by
  rw [val_main_v117_apply]
  have e : ∀ d, lidx_main_v117 (ix6 b h m r l t) d = ix5 b h m r d := fun d => by funext a; fin_cases a <;> rfl
  have e' : ∀ d, ridx_main_v117 (ix6 b h m r l t) d = ix7 b h m r l t d := fun d => by funext a; fin_cases a <;> rfl
  simp only [e, e', v42_apply, v109_apply x b h hq hk, hq, ← EReal.coe_mul]
  rw [Attn.coe_sum]

theorem v119_apply (l : Fin 3) (t : Fin 256) : val_main_v119 (F := Ideal) x (ix6 b h m r l t) = (dot q k (pos m r) (pos (sl q k m r l) t) : EReal) := by
  have e0 : ∀ i, idx_main_v118 i = ix0 := fun i => funext fun a => a.elim0
  rw [val_main_v119_apply, val_main_v118_apply, e0, v117_apply x b h hq hk m r l t, scale_apply]
  exact (EReal.coe_mul _ _).symm

theorem v121_apply (l : Fin 3) (t : Fin 256) : val_main_v121 (F := Ideal) x (ix6 b h m r l t)
    = if (l : ℕ) < m then (dot q k (pos m r) (pos (sl q k m r l) t) : EReal) else ⊥ := by
  have hb : (id (constant S_ .f32 0xFF800000#32) : S_.Idx → Ideal .f32) ix0 = (⊥ : EReal) := Words.ofBits_neg_inf
  pointwise [val_main_v121, val_main_call1_v2, val_main_call1_v1, val_main_call1_v0, val_main_cst_11, val_main_v120, val_main_v102, val_main_v101, val_main_v100, val_main_v99, val_main_v98, val_main_v97, val_main_v88]
  rw [v119_apply x b h hq hk, hb, Words.slt_small _ _ (by omega) (by omega), Scalar.select_ofBool]
  by_cases hc : (l : ℕ) < m
  · rw [if_pos (by simpa using hc), if_pos hc]
  · rw [if_neg (by simpa using hc), if_neg hc]

theorem v122_apply (t : Fin 256) : val_main_v122 (F := Ideal) x (ix5 b h m r t) = ((∑ d, q (pos m r) d * k (pos m t) d : ℝ) : EReal) := by
  rw [val_main_v122_apply]
  have e : ∀ d, lidx_main_v122 (ix5 b h m r t) d = ix5 b h m r d := fun d => by funext a; fin_cases a <;> rfl
  have e' : ∀ d, ridx_main_v122 (ix5 b h m r t) d = ix5 b h m t d := fun d => by funext a; fin_cases a <;> rfl
  simp only [e, e', v42_apply, v79_apply, hk, hq, ← EReal.coe_mul]
  rw [Attn.coe_sum]

theorem v124_apply (t : Fin 256) : val_main_v124 (F := Ideal) x (ix5 b h m r t) = (dot q k (pos m r) (pos m t) : EReal) := by
  have e0 : ∀ i, idx_main_v123 i = ix0 := fun i => funext fun a => a.elim0
  rw [val_main_v124_apply, val_main_v123_apply, e0, v122_apply x b h hq hk m r t, scale_apply]
  exact (EReal.coe_mul _ _).symm

theorem v132_apply (t : Fin 256) : val_main_v132 (F := Ideal) x (ix5 b h m r t)
    = if (t : ℕ) ≤ r then (dot q k (pos m r) (pos m t) : EReal) else ⊥ := by
  have hb : (id (constant S_ .f32 0xFF800000#32) : S_.Idx → Ideal .f32) ix0 = (⊥ : EReal) := Words.ofBits_neg_inf
  pointwise [val_main_v132, val_main_call2_v2, val_main_call2_v1, val_main_call2_v0, val_main_cst_12, val_main_v131, val_main_v130, val_main_v129, val_main_v128, val_main_v127, val_main_v126, val_main_v125]
  rw [v124_apply x b h hq hk, hb, Words.sle_small _ _ (by omega) (by omega), Scalar.select_ofBool]
  by_cases hc : (t : ℕ) ≤ r
  · rw [if_pos (by simpa using hc), if_pos hc]
  · rw [if_neg (by simpa using hc), if_neg hc]

theorem v134_apply (c : Fin 1024) : val_main_v134 (F := Ideal) x (ix5 b h m r c)
    = Attn.score (Open m r) (fun c => dot q k (pos m r) (slot q k m r c)) c := by
  pointwise [val_main_v134, val_main_v133]
  unfold Attn.score Open
  by_cases hc : (c : ℕ) < 768
  · have e : slot q k m r c = pos (sl q k m r ⟨c / 256, by omega⟩) ⟨c % 256, by omega⟩ := dif_pos hc
    simp only [dif_pos hc, if_pos hc, v121_apply x b h hq hk, e]
  · have e : slot q k m r c = pos m ⟨c - 768, by omega⟩ := dif_neg hc
    simp only [dif_neg hc, if_neg hc, v132_apply x b h hq hk, e]

end

end Cert.RefC
-- ==== Proof.RefD.lean ====
/-
  The columns of the reference's row of scores, as the keys that the row attends to: each such key is in one open column.
-/
module
public import proofs.«01_k».proof.Proof.RefC

@[expose] public section

set_option maxRecDepth 16384

namespace Cert.RefD

open Idealize.ShloMosaic Cert.Spec Cert.RefB Cert.RefC
open scoped BigOperators

section

variable (q k : Fin 4096 → Fin 128 → ℝ) (m : Fin 16) (r : Fin 256)

theorem blk_pos (m : Fin 16) (r : Fin 256) : blk (pos m r) = m := Fin.ext (by change ((m : ℕ) * 256 + r) / 256 = m; omega)

theorem pos_inj {m m' : Fin 16} {r r' : Fin 256} (h : pos m r = pos m' r') : m = m' ∧ r = r' := by
  have h1 := congrArg Fin.val h
  change (m : ℕ) * 256 + r = m' * 256 + r' at h1
  exact ⟨Fin.ext (by omega), Fin.ext (by omega)⟩

theorem exists_pos (j : Fin 4096) : ∃ m r, j = pos m r :=
  ⟨blk j, ⟨j % 256, by omega⟩, Fin.ext (by change (j : ℕ) = j / 256 * 256 + j % 256; omega)⟩

theorem rank_sl (l : Fin 3) : Sel.rank (gateRow q k (pos m r)) (sl q k m r l) = l := rank_srt _ _

theorem rank_lt_blk (n : Fin 16) : Sel.rank (gateRow q k (pos m r)) n < m ↔ gateRow q k (pos m r) n ≠ ⊥ :=
  Sel.rank_lt_iff _ _ (by omega) (fun a => by rw [gateRow_ne_bot, blk_pos]) n

/-- An open place holds a block before the row's own. -/
theorem sl_lt (l : Fin 3) (hl : (l : ℕ) < m) : gateRow q k (pos m r) (sl q k m r l) ≠ ⊥ ∧ sl q k m r l < m := by
  have h1 := (rank_lt_blk q k m r (sl q k m r l)).mp (by rw [rank_sl]; exact hl)
  have h2 := (gateRow_ne_bot q k _ _).mp h1
  rw [blk_pos] at h2
  exact ⟨h1, h2⟩

theorem slot_picked (c : Fin 1024) (hc : (c : ℕ) < 768) : slot q k m r c = pos (sl q k m r ⟨c / 256, by omega⟩) ⟨c % 256, by omega⟩ := dif_pos hc

theorem slot_own (c : Fin 1024) (hc : ¬ (c : ℕ) < 768) : slot q k m r c = pos m ⟨c - 768, by omega⟩ := dif_neg hc

theorem slot_inj (c c' : Fin 1024) (ho : Open m r c) (ho' : Open m r c') (h : slot q k m r c = slot q k m r c') : c = c' := by
  unfold Open at ho ho'
  by_cases hc : (c : ℕ) < 768 <;> by_cases hc' : (c' : ℕ) < 768
  · rw [slot_picked q k m r c hc, slot_picked q k m r c' hc'] at h
    obtain ⟨h1, h2⟩ := pos_inj h
    have h3 := congrArg (Sel.rank (gateRow q k (pos m r))) h1
    rw [rank_sl, rank_sl] at h3
    have h4 := congrArg Fin.val h2
    simp only at h3 h4
    exact Fin.ext (by omega)
  · rw [slot_picked q k m r c hc, slot_own q k m r c' hc'] at h
    rw [if_pos hc] at ho
    have h1 := (sl_lt q k m r ⟨c / 256, by omega⟩ ho).2
    rw [(pos_inj h).1] at h1
    exact absurd h1 (lt_irrefl _)
  · rw [slot_own q k m r c hc, slot_picked q k m r c' hc'] at h
    rw [if_pos hc'] at ho'
    have h1 := (sl_lt q k m r ⟨c' / 256, by omega⟩ ho').2
    rw [← (pos_inj h).1] at h1
    exact absurd h1 (lt_irrefl _)
  · rw [slot_own q k m r c hc, slot_own q k m r c' hc'] at h
    have h2 := congrArg Fin.val (pos_inj h).2
    simp only at h2
    exact Fin.ext (by omega)

theorem slot_allowed (c : Fin 1024) (ho : Open m r c) : Allowed q k (pos m r) (slot q k m r c) := by
  unfold Open at ho
  unfold Allowed
  by_cases hc : (c : ℕ) < 768
  · rw [if_pos hc] at ho
    have h1 := sl_lt q k m r ⟨c / 256, by omega⟩ ho
    rw [slot_picked q k m r c hc, blk_pos, blk_pos, if_neg h1.2.ne]
    exact ⟨h1.1, by rw [rank_sl]; exact Fin.isLt _⟩
  · rw [if_neg hc] at ho
    rw [slot_own q k m r c hc, blk_pos, blk_pos, if_pos rfl, Fin.le_def]
    change (m : ℕ) * 256 + (c - 768) ≤ m * 256 + r
    omega

theorem slot_surj (j : Fin 4096) (hj : Allowed q k (pos m r) j) : ∃ c, Open m r c ∧ slot q k m r c = j := by
  obtain ⟨n, t, rfl⟩ := exists_pos j
  unfold Allowed at hj
  rw [blk_pos, blk_pos] at hj
  by_cases hn : n = m
  · subst hn
    rw [if_pos rfl, Fin.le_def] at hj
    change (n : ℕ) * 256 + t ≤ n * 256 + r at hj
    refine ⟨⟨768 + t, by omega⟩, ?_, ?_⟩
    · unfold Open
      rw [if_neg (by simp only; omega)]
      simp only; omega
    · rw [slot_own q k n r _ (by simp only; omega)]
      exact congrArg _ (Fin.ext (Nat.add_sub_cancel_left ..))
  · rw [if_neg hn] at hj
    set l : Fin 3 := ⟨Sel.rank (gateRow q k (pos m r)) n, hj.2⟩ with hl
    have hs : sl q k m r l = n := Sel.rank_inj _ (by rw [rank_sl])
    have hm : (l : ℕ) < m := (rank_lt_blk q k m r n).mpr hj.1
    have e1 : ((l : ℕ) * 256 + t) / 256 = l := by omega
    have e2 : ((l : ℕ) * 256 + t) % 256 = t := by omega
    refine ⟨⟨l * 256 + t, by omega⟩, ?_, ?_⟩
    · unfold Open
      rw [if_pos (by simp only; omega)]
      simp only [e1]; exact hm
    · rw [slot_picked q k m r _ (by simp only; omega)]
      simp only [e1, e2, Fin.eta, hs]

/-- The attention over the columns is the attention over the keys. -/
theorem attn_slot (v : Fin 4096 → EReal) :
    Attn.attn (Open m r) (fun c => dot q k (pos m r) (slot q k m r c)) (fun c => v (slot q k m r c))
      = Attn.attn (Allowed q k (pos m r)) (dot q k (pos m r)) v :=
  Attn.attn_reindex (slot q k m r) _ _ (slot_inj q k m r) (slot_allowed q k m r) (slot_surj q k m r) (dot q k (pos m r)) v

theorem exists_open : ∃ c, Open m r c := ⟨⟨768, by omega⟩, by unfold Open; rw [if_neg (by simp)]; simp⟩

/-- A sum over the columns, by the three picked blocks and the own one. -/
theorem sum_columns (f : Fin 1024 → EReal) :
    ∑ c, f c = (∑ l : Fin 3, ∑ t : Fin 256, f ⟨l * 256 + t, by omega⟩) + ∑ t : Fin 256, f ⟨768 + t, by omega⟩ := by
  have h1 : ∑ c, f c = (∑ a : Fin 768, f ⟨a, by omega⟩) + ∑ t : Fin 256, f ⟨768 + t, by omega⟩ :=
    Fin.sum_univ_add (a := 768) (b := 256) f
  have h2 : (∑ a : Fin 768, f ⟨a, by omega⟩) = ∑ l : Fin 3, ∑ t : Fin 256, f ⟨l * 256 + t, by omega⟩ := by
    rw [← Fintype.sum_prod_type', ← Equiv.sum_comp (finProdFinEquiv (m := 3) (n := 256))]
    refine Finset.sum_congr rfl fun p _ => congrArg f (Fin.ext ?_)
    change (p.2 : ℕ) + 256 * p.1 = p.1 * 256 + p.2
    omega
  rw [h1, h2]

end

end Cert.RefD
-- ==== Proof.RefE.lean ====
/-
  The reference, stage by stage: the softmax weights, the weighted sums, and the result.
-/
module
public import proofs.«01_k».proof.Proof.RefD
public import Idealize.ShloMosaic.Lib.TwoAxisContraction

@[expose] public section

set_option maxRecDepth 16384

namespace Cert.RefE

open Idealize.ShloMosaic Cert.ReferenceIdeal Cert.ReferenceIdeal.Gen Cert.ReferenceIdeal.Read Cert.Spec Cert.RefA Cert.RefB Cert.RefC Cert.RefD
open scoped BigOperators

section

variable (x : BufTy.Contents (Elt Ideal) { shape := S8x4096x10240, elt := .bf16 }) (b h : Fin 8)
variable {q k : Fin 4096 → Fin 128 → ℝ} (hq : ∀ i d, val_main_v41 (F := Ideal) x (ix4 b h i d) = (q i d : EReal))
  (hk : ∀ i d, val_main_v78 (F := Ideal) x (ix4 b h i d) = (k i d : EReal))
variable (m : Fin 16) (r : Fin 256)

theorem v149_sum (d : Fin 128) : val_main_v149 (F := Ideal) x (ix5 b h m r d)
    = ∑ l : Fin 3, ∑ t : Fin 256, val_main_v147 (F := Ideal) x (ix6 b h m r l t) * val_main_v116 (F := Ideal) x (ix7 b h m r l t d) := by
  unfold val_main_v149
  generalize val_main_v147 (F := Ideal) x = y0
  generalize val_main_v116 (F := Ideal) x = y1
  simp only [Host.dotGeneral]
  set D := dot_S8x8x16x256x3x256_S8x8x16x256x3x256x128_S8x8x16x256x128_45_45_n_6_0123_0123 with hD
  rw [Ideal.dotGeneral_apply, ValueIdx.sum_contr2 D 3 256 rfl rfl rfl]
  refine Finset.sum_congr rfl fun l _ => Finset.sum_congr rfl fun t _ => ?_
  have h0 := ValueIdx.contrEquiv2_symm_val0 D 3 256 rfl rfl rfl (l, t)
  have h1 := ValueIdx.contrEquiv2_symm_val1 D 3 256 rfl rfl rfl (l, t)
  generalize (ValueIdx.contrEquiv2 D 3 256 rfl rfl rfl).symm (l, t) = p at h0 h1
  have el : D.lhsIdx (ix5 b h m r d) p = ix6 b h m r l t := by
    funext a; refine Fin.ext ?_
    fin_cases a
    · rfl
    · rfl
    · rfl
    · rfl
    · exact h0
    · exact h1
  have er : D.rhsIdx (ix5 b h m r d) p = ix7 b h m r l t d := by
    funext a; refine Fin.ext ?_
    fin_cases a
    · rfl
    · rfl
    · rfl
    · rfl
    · exact h0
    · exact h1
    · rfl
  rw [el, er]

theorem v147_apply (l : Fin 3) (t : Fin 256) : val_main_v147 (F := Ideal) x (ix6 b h m r l t) = val_main_v145 (F := Ideal) x (ix5 b h m r (⟨l * 256 + t, by omega⟩ : Fin 1024)) := by
  pointwise [val_main_v147, val_main_v146]

theorem v148_apply (t : Fin 256) : val_main_v148 (F := Ideal) x (ix5 b h m r t) = val_main_v145 (F := Ideal) x (ix5 b h m r (⟨768 + t, by omega⟩ : Fin 1024)) := by
  pointwise [val_main_v148]

theorem v137_apply : val_main_v137 (F := Ideal) x (ix4 b h m r) = Finset.univ.fold max ⊥ (fun c : Fin 1024 => val_main_v134 (F := Ideal) x (ix5 b h m r c)) := by
  have h0 : ∀ i, val_main_v136 (F := Ideal) i = (⊥ : EReal) := fun i => (val_main_v136_apply i).trans Words.ofBits_neg_inf
  rw [val_main_v137_apply, h0]
  refine (max_eq_right bot_le).trans ?_
  unfold val_main_v135
  generalize val_main_v134 (F := Ideal) x = y
  pointwise [val_main_cst_13]
  rw [Words.ofBits_neg_inf]

include hq hk

/-- The weight of a column. -/
theorem v145_apply (c : Fin 1024) : val_main_v145 (F := Ideal) x (ix5 b h m r c)
    = (Attn.wgt (Open m r) (fun c => dot q k (pos m r) (slot q k m r c)) c / ∑ l, Attn.wgt (Open m r) (fun c => dot q k (pos m r) (slot q k m r c)) l : ℝ) := by
  set f := fun c => dot q k (pos m r) (slot q k m r c) with hf
  obtain ⟨M, hM⟩ := Attn.fold_max_real (Open m r) f (exists_open m r)
  have h134 : ∀ c, val_main_v134 (F := Ideal) x (ix5 b h m r c) = Attn.score (Open m r) f c := v134_apply x b h hq hk m r
  have h137 : val_main_v137 (F := Ideal) x (ix4 b h m r) = (M : EReal) := by
    rw [v137_apply, ← hM]
    exact congrArg (Finset.univ.fold max ⊥) (funext h134)
  have h141 : ∀ c, val_main_v141 (F := Ideal) x (ix5 b h m r c) = ((Attn.wgt (Open m r) f c * Real.exp (-M) : ℝ) : EReal) := fun c => by
    pointwise [val_main_v141, val_main_v140, val_main_v139, val_main_v138]
    rw [h134, h137]
    exact Attn.exp_score_sub _ _ _ _
  have h142 : val_main_v142 (F := Ideal) x (ix4 b h m r) = ∑ c, ((Attn.wgt (Open m r) f c * Real.exp (-M) : ℝ) : EReal) := by
    have e : ∀ c, idx_main_v142 (ix4 b h m r) c = ix5 b h m r c := fun c => by funext a; fin_cases a <;> rfl
    have h0 : val_main_cst_15 (F := Ideal) (Shape.Idx.first h_S_) = 0 := Ideal.ofBits_zero_f32
    rw [val_main_v142_apply, h0, zero_add]
    simp only [e, h141]
  pointwise [val_main_v145, val_main_v144, val_main_v143]
  rw [h141, h142]
  exact Attn.div_scaled _ _ (exists_open m r) _ (Real.exp_pos _) c

theorem v151_apply (d : Fin 128) : val_main_v151 (F := Ideal) x (ix5 b h m r d)
    = Attn.attn (Allowed q k (pos m r)) (dot q k (pos m r)) (fun j => part x b h 2 j d) := by
  rw [← attn_slot q k m r]
  unfold Attn.attn
  rw [sum_columns]
  rw [val_main_v151_apply, v149_sum, val_main_v150_apply]
  have e : ∀ t, lidx_main_v150 (ix5 b h m r d) t = ix5 b h m r t := fun t => by funext a; fin_cases a <;> rfl
  have e' : ∀ t, ridx_main_v150 (ix5 b h m r d) t = ix5 b h m t d := fun t => by funext a; fin_cases a <;> rfl
  simp only [e, e', v147_apply, v148_apply, v145_apply x b h hq hk, v116_apply x b h hq hk, v82_apply]
  refine congrArg₂ (· + ·) (Finset.sum_congr rfl fun l _ => Finset.sum_congr rfl fun t _ => ?_) (Finset.sum_congr rfl fun t _ => ?_)
  · have e1 : ((l : ℕ) * 256 + t) / 256 = l := by omega
    have e2 : ((l : ℕ) * 256 + t) % 256 = t := by omega
    rw [slot_picked q k m r ⟨l * 256 + t, by omega⟩ (by simp only; omega)]
    simp only [e1, e2, Fin.eta]
  · rw [slot_own q k m r ⟨768 + t, by omega⟩ (by simp only; omega)]
    simp only [Nat.add_sub_cancel_left, Fin.eta]

/-- The reference's result at a row and a lane of a head. -/
theorem v157_apply (i : Fin 4096) (d : Fin 128) : val_main_v157 (F := Ideal) x (ix3 b i (⟨h * 128 + d, by omega⟩ : Fin 1024))
    = result q k (fun j => part x b h 2 j d) (part x b h 3 i d) i := by
  obtain ⟨m, r, rfl⟩ := exists_pos i
  have h1 : ∀ i, val_main_call3_v2 (F := Ideal) i = (1 : EReal) := fun i => (val_main_call3_v2_apply i).trans Words.ofBits_one
  have h2 : ∀ i, val_main_call3_v4 (F := Ideal) i = (1 : EReal) := fun i => (val_main_call3_v4_apply i).trans Words.ofBits_one
  have h4 : val_main_v4 (F := Ideal) x (ix3 b (pos m r) (⟨h * 128 + d, by omega⟩ : Fin 1024)) = x (ix3 b (pos m r) (⟨3072 + (h * 128 + d), by omega⟩ : Fin 10240)) := by
    pointwise [val_main_v4, val_main_v0]
  have h154 : val_main_v154 (F := Ideal) x (ix3 b (pos m r) (⟨h * 128 + d, by omega⟩ : Fin 1024))
      = val_main_v151 (F := Ideal) x (ix5 b h (⟨(pos m r : ℕ) / 256, by omega⟩ : Fin 16) (⟨(pos m r : ℕ) % 256, by omega⟩ : Fin 256) d) := by
    unfold val_main_v154 val_main_v153 val_main_v152
    generalize val_main_v151 (F := Ideal) x = y
    pointwise
  rw [val_main_v157_apply, val_main_v156_apply, val_main_v155_apply, val_main_call3_v5_apply, val_main_call3_v3_apply, val_main_call3_v1_apply, val_main_call3_v0_apply, h1, h2, h4, h154]
  have e1 : (⟨(pos m r : ℕ) / 256, by omega⟩ : Fin 16) = m := blk_pos m r
  have e2 : (⟨(pos m r : ℕ) % 256, by omega⟩ : Fin 256) = r := Fin.ext (by change ((m : ℕ) * 256 + r) % 256 = r; omega)
  have e3 : x (ix3 b (pos m r) (⟨3072 + (h * 128 + d), by omega⟩ : Fin 10240)) = part x b h 3 (pos m r) d :=
    congrArg (fun t => x (ix3 b (pos m r) t)) (Fin.ext (by change 3072 + ((h : ℕ) * 128 + d) = 3 * 1024 + h * 128 + d; omega))
  rw [e3, e1, e2, v151_apply x b h hq hk]
  unfold result
  rw [zero_sub]
  rfl

end

end Cert.RefE
-- ==== Proof.Asm.lean ====
/-
  The attention, assembled: what the kernel's windows read, the two tables that the host lays out, what the precondition
  gives, and that the array left by the kernel is the reference's.
-/
module
public import proofs.«01_k».proof.Proof.KPoint
public import proofs.«01_k».proof.Proof.RefE
public import proofs.«01_k».proof.Proof.Gen.KernelIdeal.Value
public import proofs.«01_k».proof.Pre_qk_finite
public import Idealize.ShloMosaic.Lib.Pipeline.ValueKit
public import Idealize.ShloMosaic.Lib.Claim
@[expose] public section
set_option maxRecDepth 16384

namespace Cert.Asm
open Cert.KRoute Idealize.ShloMosaic Idealize.ShloMosaic.TcCoe Cert.KernelIdeal Cert.KernelIdeal.Gen Cert.Spec Cert.RefA
open scoped BigOperators

/-- Which block of its array each window takes at a grid point (a batch and a head). -/
theorem idx_in : ∀ t : Fin grid0.N, win0_0.index t = ![(grid0.coords t 0).val, 0, (grid0.coords t 1).val]
    ∧ win0_1.index t = ![(grid0.coords t 0).val, 0, 8 + (grid0.coords t 1).val]
    ∧ win0_2.index t = ![(grid0.coords t 0).val, 0, 16 + (grid0.coords t 1).val]
    ∧ win0_3.index t = ![(grid0.coords t 0).val, 0, 24 + (grid0.coords t 1).val]
    ∧ win0_4.index t = ![0, 0] ∧ win0_5.index t = ![0, 0]
    ∧ win0_6.index t = ![(grid0.coords t 0).val, 0, (grid0.coords t 1).val] := by decide +kernel

variable (m : (ℓ : Loc nD τ sig) → Buf (Elt Ideal) ℓ) (c : Dev nD) (t : Fin cfg0.N)

/-- The block of queries read at a grid point. -/
theorem blk0 (i : Fin 4096) (d : Fin 128) : iblk m c 0 t (ix3 0 i d) = part (m ((c : Thread nD τ).loc main_arg0)) (grid0.coords t 0) (grid0.coords t 1) 0 i d := by
  unfold part
  blk_ext [iblk, V_main_arg0, (idx_in t).1]

section
variable {F : FTy → Type} [FloatOps F] [Named F]

/-- The host operations up to the angles. -/
abbrev hostA : List (HloOp τ sig (Elt F)) :=
  [ StableHlo.nullary main_v0 (sitofp .f32 (iotaInDim S16 32 0)),
    StableHlo.unary main_v0 main_v1 (Host.negf : (⟨S16, .f32⟩ : BufTy).Contents (Elt F) → (⟨S16, .f32⟩ : BufTy).Contents (Elt F)),
    StableHlo.nullary main_cst (constant S_ .f32 0x3D800000#32),
    StableHlo.unary main_cst main_v2 (broadcastInDim S16 ![] bcast_S_S16 : (⟨S_, .f32⟩ : BufTy).Contents (Elt F) → (⟨S16, .f32⟩ : BufTy).Contents (Elt F)),
    StableHlo.binary main_v1 main_v2 main_v3 (mulf : (⟨S16, .f32⟩ : BufTy).Contents (Elt F) → (⟨S16, .f32⟩ : BufTy).Contents (Elt F) → (⟨S16, .f32⟩ : BufTy).Contents (Elt F)),
    StableHlo.nullary main_cst_0 (constant S_ .f32 0x48F42400#32),
    StableHlo.unary main_cst_0 main_v4 (broadcastInDim S16 ![] bcast_S_S16 : (⟨S_, .f32⟩ : BufTy).Contents (Elt F) → (⟨S16, .f32⟩ : BufTy).Contents (Elt F)),
    StableHlo.binary main_v4 main_v3 main_v5 (Host.powf : (⟨S16, .f32⟩ : BufTy).Contents (Elt F) → (⟨S16, .f32⟩ : BufTy).Contents (Elt F) → (⟨S16, .f32⟩ : BufTy).Contents (Elt F)),
    StableHlo.nullary main_v6 (iotaInDim S4096 32 0),
    StableHlo.unary main_v6 main_v7 (sitofp .f32 : (⟨S4096, .i32⟩ : BufTy).Contents (Elt F) → (⟨S4096, .f32⟩ : BufTy).Contents (Elt F)),
    StableHlo.unary main_v7 main_v8 (broadcastInDim S4096x1 ![0] bcast_S4096_S4096x1_0 : (⟨S4096, .f32⟩ : BufTy).Contents (Elt F) → (⟨S4096x1, .f32⟩ : BufTy).Contents (Elt F)),
    StableHlo.unary main_v5 main_v9 (broadcastInDim S1x16 ![1] bcast_S16_S1x16_1 : (⟨S16, .f32⟩ : BufTy).Contents (Elt F) → (⟨S1x16, .f32⟩ : BufTy).Contents (Elt F)),
    StableHlo.unary main_v8 main_v10 (broadcastInDim S4096x16 ![0, 1] bcast_S4096x1_S4096x16_0_1 : (⟨S4096x1, .f32⟩ : BufTy).Contents (Elt F) → (⟨S4096x16, .f32⟩ : BufTy).Contents (Elt F)),
    StableHlo.unary main_v9 main_v11 (broadcastInDim S4096x16 ![0, 1] bcast_S1x16_S4096x16_0_1 : (⟨S1x16, .f32⟩ : BufTy).Contents (Elt F) → (⟨S4096x16, .f32⟩ : BufTy).Contents (Elt F)),
    StableHlo.binary main_v10 main_v11 main_v12 (mulf : (⟨S4096x16, .f32⟩ : BufTy).Contents (Elt F) → (⟨S4096x16, .f32⟩ : BufTy).Contents (Elt F) → (⟨S4096x16, .f32⟩ : BufTy).Contents (Elt F)) ]
/-- The host operations from the angles to the two tables. -/
abbrev hostB : List (HloOp τ sig (Elt F)) :=
  [ StableHlo.unary main_v12 main_v13 (Host.cos : (⟨S4096x16, .f32⟩ : BufTy).Contents (Elt F) → (⟨S4096x16, .f32⟩ : BufTy).Contents (Elt F)),
    StableHlo.unary main_v12 main_v14 (Host.sin : (⟨S4096x16, .f32⟩ : BufTy).Contents (Elt F) → (⟨S4096x16, .f32⟩ : BufTy).Contents (Elt F)),
    StableHlo.nullary main_cst_1 (constant S_ .f32 0x3F800000#32),
    StableHlo.unary main_cst_1 main_v15 (broadcastInDim S4096x96 ![] bcast_S_S4096x96 : (⟨S_, .f32⟩ : BufTy).Contents (Elt F) → (⟨S4096x96, .f32⟩ : BufTy).Contents (Elt F)),
    StableHlo.nullary main_cst_2 (constant S_ .f32 0x00000000#32),
    StableHlo.unary main_cst_2 main_v16 (broadcastInDim S4096x96 ![] bcast_S_S4096x96 : (⟨S_, .f32⟩ : BufTy).Contents (Elt F) → (⟨S4096x96, .f32⟩ : BufTy).Contents (Elt F)),
    StableHlo.nary ![main_v13, main_v13, main_v15] main_v17 (fun u => (concatenate S4096x128 1 [⟨S4096x16, (u 0 : (⟨S4096x16, .f32⟩ : BufTy).Contents (Elt F))⟩, ⟨S4096x16, (u 1 : (⟨S4096x16, .f32⟩ : BufTy).Contents (Elt F))⟩, ⟨S4096x96, (u 2 : (⟨S4096x96, .f32⟩ : BufTy).Contents (Elt F))⟩] concatenates_S4096x16_S4096x16_S4096x96_S4096x128_d1 : (⟨S4096x128, .f32⟩ : BufTy).Contents (Elt F))),
    StableHlo.unary main_v14 main_v18 (Host.negf : (⟨S4096x16, .f32⟩ : BufTy).Contents (Elt F) → (⟨S4096x16, .f32⟩ : BufTy).Contents (Elt F)),
    StableHlo.nary ![main_v18, main_v14, main_v16] main_v19 (fun u => (concatenate S4096x128 1 [⟨S4096x16, (u 0 : (⟨S4096x16, .f32⟩ : BufTy).Contents (Elt F))⟩, ⟨S4096x16, (u 1 : (⟨S4096x16, .f32⟩ : BufTy).Contents (Elt F))⟩, ⟨S4096x96, (u 2 : (⟨S4096x96, .f32⟩ : BufTy).Contents (Elt F))⟩] concatenates_S4096x16_S4096x16_S4096x96_S4096x128_d1 : (⟨S4096x128, .f32⟩ : BufTy).Contents (Elt F))) ]

/-- The host operations before the kernel, cut in two. -/
theorem host_split : (hostOps0 : List (HloOp τ sig (Elt F))) = hostA ++ hostB := rfl

end

set_option maxHeartbeats 2000000 in
/-- The angles that the kernel's host computes are the reference's. -/
theorem angles (W : Valuation τ sig (Elt Ideal)) : StableHlo.after hostA W (Proc.devRef .tc main_v12) = Cert.ReferenceIdeal.Read.val_main_v19 (F := Ideal) := by
  simp only [hostA]
  after_results_simp
  rfl

/-- Three arrays laid beside one another are so far as each is. -/
theorem concat_eq {a a' b b' : S4096x16.Idx → EReal} {o o' : S4096x96.Idx → EReal} (ha : a = a') (hb : b = b') (ho : o = o') :
    concatenate S4096x128 1 [⟨S4096x16, a⟩, ⟨S4096x16, b⟩, ⟨S4096x96, o⟩] concatenates_S4096x16_S4096x16_S4096x96_S4096x128_d1
      = concatenate S4096x128 1 [⟨S4096x16, a'⟩, ⟨S4096x16, b'⟩, ⟨S4096x96, o'⟩] concatenates_S4096x16_S4096x16_S4096x96_S4096x128_d1 := by
  subst ha hb ho; rfl

section
variable (W : Valuation τ sig (Elt Ideal)) (T : (⟨S4096x16, .f32⟩ : BufTy).Contents (Elt Ideal)) (hT : W (Proc.devRef .tc main_v12) = T)
include hT

set_option maxHeartbeats 2000000 in
/-- The table of cosines: twice the cosines of the angles, then ones. -/
theorem table_cos : StableHlo.after hostB W (Proc.devRef .tc main_v17)
    = concatenate S4096x128 1 [⟨S4096x16, (Host.cos T : FVec Ideal S4096x16 .f32)⟩, ⟨S4096x16, (Host.cos T : FVec Ideal S4096x16 .f32)⟩,
        ⟨S4096x96, broadcastInDim S4096x96 ![] bcast_S_S4096x96 (constant (F := Ideal) S_ .f32 0x3F800000#32)⟩] concatenates_S4096x16_S4096x16_S4096x96_S4096x128_d1 := by
  subst hT
  simp only [hostB]
  after_results_simp
  refine concat_eq ?_ ?_ ?_
  · change HloOp.result _ _ (Proc.devRef .tc main_v13) = _
    after_results_simp
  · change HloOp.result _ _ (Proc.devRef .tc main_v13) = _
    after_results_simp
  · change HloOp.result _ _ (Proc.devRef .tc main_v15) = _
    after_results_simp

set_option maxHeartbeats 2000000 in
/-- The table of sines: the sines of the angles negated, the sines, then zeros. -/
theorem table_sin : StableHlo.after hostB W (Proc.devRef .tc main_v19)
    = concatenate S4096x128 1 [⟨S4096x16, (Host.negf (Host.sin T) : FVec Ideal S4096x16 .f32)⟩, ⟨S4096x16, (Host.sin T : FVec Ideal S4096x16 .f32)⟩,
        ⟨S4096x96, broadcastInDim S4096x96 ![] bcast_S_S4096x96 (constant (F := Ideal) S_ .f32 0x00000000#32)⟩] concatenates_S4096x16_S4096x16_S4096x96_S4096x128_d1 := by
  subst hT
  simp only [hostB]
  after_results_simp
  refine concat_eq ?_ ?_ ?_
  · change HloOp.result _ _ (Proc.devRef .tc main_v18) = _
    after_results_simp
  · change HloOp.result _ _ (Proc.devRef .tc main_v14) = _
    after_results_simp
  · change HloOp.result _ _ (Proc.devRef .tc main_v16) = _
    after_results_simp

end

/-- What the table of cosines holds when the kernel starts. -/
theorem cos_table : CosTable (V m c main_v17) (fun i e => Real.cos (ang i e)) := by
  have e : V m c main_v17 = _ := (congrFun (congrArg (fun l => StableHlo.after l (fun b => m (c, b))) host_split) _).trans
    ((congrFun (StableHlo.after_append hostA hostB _) _).trans (table_cos _ _ (angles _)))
  rw [e]
  intro i d
  pointwise
  simp only [ang_apply, Ideal.cos_coe, Ideal.ofBits_one_f32]
  by_cases h1 : (d : ℕ) < 16
  · rw [dif_pos h1, dif_pos h1]
  · by_cases h2 : (d : ℕ) < 32
    · rw [dif_neg h1, dif_neg h1, dif_pos (by change (d : ℕ) - 16 < 16; omega), dif_pos h2]
    · rw [dif_neg h1, dif_neg h1, dif_neg (by change ¬ (d : ℕ) - 16 < 16; omega), dif_neg h2]; rfl

/-- What the table of sines holds when the kernel starts. -/
theorem sin_table : SinTable (V m c main_v19) (fun i e => Real.sin (ang i e)) := by
  have e : V m c main_v19 = _ := (congrFun (congrArg (fun l => StableHlo.after l (fun b => m (c, b))) host_split) _).trans
    ((congrFun (StableHlo.after_append hostA hostB _) _).trans (table_sin _ _ (angles _)))
  rw [e]
  intro i d
  pointwise
  simp only [ang_apply, Ideal.sin_coe, Ideal.ofBits_zero_f32, ← EReal.coe_neg]
  by_cases h1 : (d : ℕ) < 16
  · rw [dif_pos h1, dif_pos h1]
  · by_cases h2 : (d : ℕ) < 32
    · rw [dif_neg h1, dif_neg h1, dif_pos (by change (d : ℕ) - 16 < 16; omega), dif_pos h2]
    · rw [dif_neg h1, dif_neg h1, dif_neg (by change ¬ (d : ℕ) - 16 < 16; omega), dif_neg h2]; rfl

/-- The block of keys read at a grid point. -/
theorem blk1 (i : Fin 4096) (d : Fin 128) : iblk m c 1 t (ix3 0 i d) = part (m ((c : Thread nD τ).loc main_arg0)) (grid0.coords t 0) (grid0.coords t 1) 1 i d := by
  unfold part
  blk_ext [iblk, V_main_arg0, (idx_in t).2.1]

/-- The block of values read at a grid point. -/
theorem blk2 (i : Fin 4096) (d : Fin 128) : iblk m c 2 t (ix3 0 i d) = part (m ((c : Thread nD τ).loc main_arg0)) (grid0.coords t 0) (grid0.coords t 1) 2 i d := by
  unfold part
  blk_ext [iblk, V_main_arg0, (idx_in t).2.2.1]

/-- The block of gates read at a grid point. -/
theorem blk3 (i : Fin 4096) (d : Fin 128) : iblk m c 3 t (ix3 0 i d) = part (m ((c : Thread nD τ).loc main_arg0)) (grid0.coords t 0) (grid0.coords t 1) 3 i d := by
  unfold part
  blk_ext [iblk, V_main_arg0, (idx_in t).2.2.2.1]

/-- The table of cosines as a grid point reads it. -/
theorem blk4 (i : Fin 4096) (d : Fin 128) : iblk m c 4 t (ix2 i d) = V m c main_v17 (ix2 i d) := by
  blk_ext [iblk, (idx_in t).2.2.2.2.1]

/-- The table of sines as a grid point reads it. -/
theorem blk5 (i : Fin 4096) (d : Fin 128) : iblk m c 5 t (ix2 i d) = V m c main_v19 (ix2 i d) := by
  blk_ext [iblk, (idx_in t).2.2.2.2.2.1]

instance : Cert.Pre_qk_finite.Facts where
  slices_S8x4096x10240_S8x4096x2048_0_0_0 := by decide
  bitsLt_bf16_f32 := by decide
  bcast_S_S8x4096x2048 := by decide

/-- Under the precondition the queries and the keys are reals. -/
theorem finite_of_pre (x : (⟨S8x4096x10240, .bf16⟩ : BufTy).Contents (Elt Ideal)) (hx : Cert.Pre_qk_finite.fn (F := Ideal) x = fun _ => 1#1)
    (b : Fin 8) (i : Fin 4096) (k : Fin 2048) : ∃ r : ℝ, x (ix3 b i (⟨k, by omega⟩ : Fin 10240)) = (r : EReal) := by
  have h := congrFun hx (ix3 b i k)
  unfold Cert.Pre_qk_finite.fn at h
  revert h
  pointwise
  rw [Words.ofBits_pos_inf]
  generalize x (ix3 b i (⟨k, by omega⟩ : Fin 10240)) = y
  change EReal at y
  induction y with
  | bot => intro h; exfalso; revert h; change BitVec.ofBool (decide (max (⊥ : EReal) (-⊥) < ⊤)) = 1#1 → False; simp
  | top => intro h; exfalso; revert h; change BitVec.ofBool (decide (max (⊤ : EReal) (-⊤) < ⊤)) = 1#1 → False; simp
  | coe r => exact fun _ => ⟨r, rfl⟩

/-- Under the precondition a head's queries (part 0) and keys (part 1) are reals. -/
theorem part_real (x : (⟨S8x4096x10240, .bf16⟩ : BufTy).Contents (Elt Ideal)) (hx : Cert.Pre_qk_finite.fn (F := Ideal) x = fun _ => 1#1)
    (b h : Fin 8) (p : Fin 4) (hp : (p : ℕ) < 2) : ∃ r : Fin 4096 → Fin 128 → ℝ, ∀ i d, part x b h p i d = (r i d : EReal) := by
  refine ⟨fun i d => (finite_of_pre x hx b i (⟨(p : ℕ) * 1024 + (h : ℕ) * 128 + (d : ℕ), by omega⟩ : Fin 2048)).choose, fun i d => ?_⟩
  exact (finite_of_pre x hx b i (⟨(p : ℕ) * 1024 + (h : ℕ) * 128 + (d : ℕ), by omega⟩ : Fin 2048)).choose_spec

/-- The block a grid point leaves, element by element, is the reference's. -/
theorem point_eq (hx : Cert.Pre_qk_finite.fn (F := Ideal) (m ((c : Thread nD τ).loc main_arg0)) = fun _ => 1#1) (i : Fin 4096) (d : Fin 128) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) (ix3 0 i d)
      = Cert.ReferenceIdeal.Read.val_main_v157 (F := Ideal) (m ((c : Thread nD τ).loc main_arg0))
          (ix3 (grid0.coords t 0) i (⟨(grid0.coords t 1 : ℕ) * 128 + d, by have := (grid0.coords t 1).isLt; change _ < 8 at this; omega⟩ : Fin 1024)) := by
  obtain ⟨qr, hq⟩ := part_real _ hx (grid0.coords t 0) (grid0.coords t 1) 0 (by decide)
  obtain ⟨kr, hk⟩ := part_real _ hx (grid0.coords t 0) (grid0.coords t 1) 1 (by decide)
  have hC : CosTable (iblk m c 4 t) (fun i e => Real.cos (ang i e)) := fun i d => (blk4 m c t i d).trans (cos_table m c i d)
  have hS : SinTable (iblk m c 5 t) (fun i e => Real.sin (ang i e)) := fun i d => (blk5 m c t i d).trans (sin_table m c i d)
  rw [Cert.KPoint.out_eq (q := rope (fun i e => Real.cos (ang i e)) (fun i e => Real.sin (ang i e)) qr) (k := rope (fun i e => Real.cos (ang i e)) (fun i e => Real.sin (ang i e)) kr)
    (hq := fun i d => rope_apply hC hS (fun i d => (blk0 m c t i d).trans (hq i d)) i d)
    (hk := fun i d => rope_apply hC hS (fun i d => (blk1 m c t i d).trans (hk i d)) i d)]
  refine Eq.trans ?_ (Cert.RefE.v157_apply _ (grid0.coords t 0) (grid0.coords t 1) (fun i d => v41_apply _ _ _ i d qr hq) (fun i d => v78_apply _ _ _ i d kr hk) i d).symm
  change result _ _ (fun j => iblk m c 2 t (ix3 0 j d)) (iblk m c 3 t (ix3 0 i d)) i = _
  rw [blk3, funext fun j => blk2 m c t j d]

/-- The place of an element of an output block, in the block and in the array. -/
theorem place (y : ((cfg0.win 6).xblock (cfg0.grid.coords t)).Idx) :
    ∃ (i : Fin 4096) (d : Fin 128), (cfg0.win 6).xinj (cfg0.grid.coords t) y = (ix3 0 i d : S1x4096x128.Idx)
      ∧ ((cfg0.win 6).blk t).view.emb y = (ix3 (grid0.coords t 0) i (⟨(grid0.coords t 1 : ℕ) * 128 + d, by have := (grid0.coords t 1).isLt; change _ < 8 at this; omega⟩ : Fin 1024) : S8x4096x1024.Idx) := by
  refine ⟨⟨y 1, (y 1).isLt⟩, ⟨y 2, (y 2).isLt⟩, ?_, ?_⟩
  · blk_ext [(idx_in t).2.2.2.2.2.2]
  · blk_ext [(idx_in t).2.2.2.2.2.2]

/-- What a grid point leaves in the staging buffer of the output, element by element, is the reference's. -/
theorem after_point (hx : Cert.Pre_qk_finite.fn (F := Ideal) (m ((c : Thread nD τ).loc main_arg0)) = fun _ => 1#1) (i : Fin 4096) (d : Fin 128) :
    (dats m 0 c).after 6 t (ix3 0 i d : S1x4096x128.Idx)
      = Cert.ReferenceIdeal.Read.val_main_v157 (F := Ideal) (m ((c : Thread nD τ).loc main_arg0))
          (ix3 (grid0.coords t 0) i (⟨(grid0.coords t 1 : ℕ) * 128 + d, by have := (grid0.coords t 1).isLt; change _ < 8 at this; omega⟩ : Fin 1024)) :=
  (congrFun (after0_6 m c t) _).trans (point_eq m c t hx i d)

/-- The array the kernel leaves is the reference's. -/
theorem arr_eq (hx : Cert.Pre_qk_finite.fn (F := Ideal) (m ((c : Thread nD τ).loc main_arg0)) = fun _ => 1#1) :
    (dats m 0 c).arrAt 6 cfg0.N = Cert.ReferenceIdeal.Read.val_main_v157 (F := Ideal) (m ((c : Thread nD τ).loc main_arg0)) := by
  refine (dats m 0 c).arrAt_eq_of_covers 6 _ (by decide +kernel) fun t hf y => ?_
  obtain ⟨i, d, h1, h2⟩ := place t y
  rw [cast_eq, h1, h2]
  exact after_point m c t hx i d

end Cert.Asm
-- ==== Proof.Out.lean ====
/-
  The output projection, element by element: what the kernel's body computes of a block, and what the reference computes
  of its arguments, are one function of the rows they read.
-/
module
public import proofs.«01_k».proof.Proof.Gen.Kernel2Ideal.Value
public import proofs.«01_k».proof.Proof.Gen.Reference2Ideal.Read
public import Idealize.ShloMosaic.Lib.Pipeline.ValueKit
public import Idealize.ShloMosaic.Lib.Claim
public import Idealize.ShloMosaic.Lib.Pointwise.IndexVar

@[expose] public section

set_option maxRecDepth 16384

namespace Cert.Out

open Idealize.ShloMosaic Idealize.ShloMosaic.TcCoe
open scoped BigOperators

/-- The logistic function. -/
noncomputable def sg (z : EReal) : EReal := Ideal.div 1 (1 + Ideal.exp (-z))

/-- The gated sum of the two branches' projections, at a lane. -/
noncomputable def mix (a b ga gb : Fin 1024 → EReal) (wa wb : Fin 1024 → Fin 1024 → EReal) (e : Fin 1024) : EReal :=
  sg (ga e) * (∑ k, a k * wa k e) + sg (gb e) * (∑ k, b k * wb k e)

/-- The output projection of a row, at a lane. -/
noncomputable def proj (u : Fin 1024 → EReal) (wo : Fin 1024 → Fin 1024 → EReal) (d : Fin 1024) : EReal := ∑ e, u e * wo e d

/-- A row divided by its root mean square, scaled lane by lane, and added to the residual. -/
noncomputable def normed (x o nw : Fin 1024 → EReal) (d : Fin 1024) : EReal :=
  x d + o d * Ideal.rsqrt (Ideal.div (∑ e, o e * o e) (Ideal.ofBits .f32 0x44800000#32) + Ideal.ofBits .f32 0x358637BD#32) * nw d

section
open Cert.Kernel2Ideal Cert.Kernel2Ideal.Gen

/-- The gated sum the body computes. -/
theorem pay2_apply (a : Vec Ideal S512x1024 .bf16) (wa : Vec Ideal S1024x1024 .bf16) (b : Vec Ideal S512x1024 .bf16) (wb : Vec Ideal S1024x1024 .bf16)
    (ga gb : Vec Ideal S512x1024 .bf16) (r : Fin 512) (e : Fin 1024) :
    k0_pay2 (F := Ideal) a wa b wb ga gb (ix2 r e)
      = mix (fun k => a (ix2 r k)) (fun k => b (ix2 r k)) (fun k => ga (ix2 r k)) (fun k => gb (ix2 r k)) (fun k e => wa (ix2 k e)) (fun k e => wb (ix2 k e)) e := by
  pointwise [k0_pay2]
  unfold mix sg
  simp only [Ideal.ofBits_zero_f32, Ideal.ofBits_one_f32, zero_sub]

/-- The row the body stores, of the gated sum. -/
theorem pay1_apply (u : Vec Ideal S512x1024 .bf16) (wo : Vec Ideal S1024x1024 .bf16) (x : Vec Ideal S512x1024 .f32) (nw : Vec Ideal S1x1024 .f32)
    (r : Fin 512) (d : Fin 1024) :
    k0_pay1 (F := Ideal) u (k0_pay3 wo) (constant S512x1024 .f32 0x00000000#32) x nw (ix2 r d)
      = normed (fun d => x (ix2 r d)) (proj (fun e => u (ix2 r e)) fun e d => wo (ix2 e d)) (fun d => nw (ix2 0 d)) d := by
  pointwise [k0_pay1, k0_pay3]
  unfold normed proj
  pointwise

end

section
open Cert.Reference2Ideal Cert.Reference2Ideal.Gen Cert.Reference2Ideal.Read

variable (x0 : (⟨S8x4096x1024, .f32⟩ : BufTy).Contents (Elt Ideal)) (x1 x2 : (⟨S8x4096x1024, .bf16⟩ : BufTy).Contents (Elt Ideal))
  (x3 : (⟨S8x4096x10240, .bf16⟩ : BufTy).Contents (Elt Ideal)) (x4 x5 x6 : (⟨S1024x1024, .f32⟩ : BufTy).Contents (Elt Ideal))
  (x7 : (⟨S1024, .f32⟩ : BufTy).Contents (Elt Ideal)) (b : Fin 8) (s : Fin 4096)

/-- The reference's gated sum of a row. -/
noncomputable def rmix : Fin 1024 → EReal :=
  mix (fun k => x1 (ix3 b s k)) (fun k => x2 (ix3 b s k)) (fun k => x3 (ix3 b s (⟨8192 + k, by omega⟩ : Fin 10240)))
    (fun k => x3 (ix3 b s (⟨9216 + k, by omega⟩ : Fin 10240))) (fun k e => x4 (ix2 k e)) (fun k e => x5 (ix2 k e))

/-- The first branch's projection. -/
theorem v5_apply (e : Fin 1024) : val_main_v5 (F := Ideal) x1 x4 (ix3 b s e) = ∑ k, x1 (ix3 b s k) * x4 (ix2 k e) := by
  rw [val_main_v5_apply]
  exact Finset.sum_congr rfl fun k _ => congrArg₂ (· * ·) (congrArg x1 (by funext a; fin_cases a <;> rfl)) (congrArg x4 (by funext a; fin_cases a <;> rfl))

/-- The second branch's projection. -/
theorem v7_apply (e : Fin 1024) : val_main_v7 (F := Ideal) x2 x5 (ix3 b s e) = ∑ k, x2 (ix3 b s k) * x5 (ix2 k e) := by
  rw [val_main_v7_apply]
  exact Finset.sum_congr rfl fun k _ => congrArg₂ (· * ·) (congrArg x2 (by funext a; fin_cases a <;> rfl)) (congrArg x5 (by funext a; fin_cases a <;> rfl))

/-- The first branch's gate. -/
theorem v13_apply (e : Fin 1024) : val_main_v13 (F := Ideal) x3 (ix3 b s e) = sg (x3 (ix3 b s (⟨8192 + e, by omega⟩ : Fin 10240))) := by
  pointwise [val_main_v13, val_main_v12, val_main_cst_0, val_main_v11, val_main_v10, val_main_cst, val_main_v9, val_main_v8, val_main_v1, val_main_v0]
  rfl

/-- The second branch's gate. -/
theorem v20_apply (e : Fin 1024) : val_main_v20 (F := Ideal) x3 (ix3 b s e) = sg (x3 (ix3 b s (⟨9216 + e, by omega⟩ : Fin 10240))) := by
  pointwise [val_main_v20, val_main_v19, val_main_cst_2, val_main_v18, val_main_v17, val_main_cst_1, val_main_v16, val_main_v15, val_main_v3, val_main_v2]
  rfl

/-- The gated sum. -/
theorem v22_apply (e : Fin 1024) : val_main_v22 (F := Ideal) x1 x2 x3 x4 x5 (ix3 b s e) = rmix x1 x2 x3 x4 x5 b s e := by
  pointwise [val_main_v22, val_main_v14, val_main_v21]
  rw [v13_apply, v20_apply, v5_apply, v7_apply]
  rfl

/-- The output projection. -/
theorem v23_apply (d : Fin 1024) : val_main_v23 (F := Ideal) x1 x2 x3 x4 x5 x6 (ix3 b s d) = proj (rmix x1 x2 x3 x4 x5 b s) (fun e d => x6 (ix2 e d)) d := by
  rw [val_main_v23_apply]
  refine Finset.sum_congr rfl fun k _ => congrArg₂ (· * ·) ?_ (congrArg x6 (by funext a; fin_cases a <;> rfl))
  rw [← v22_apply]
  exact congrArg _ (by funext a; fin_cases a <;> rfl)

/-- The mean square of a row. -/
theorem v28_apply (u : Fin 1) : val_main_v28 (F := Ideal) x1 x2 x3 x4 x5 x6 (ix3 b s u)
    = Ideal.div (∑ e, proj (rmix x1 x2 x3 x4 x5 b s) (fun e d => x6 (ix2 e d)) e * proj (rmix x1 x2 x3 x4 x5 b s) (fun e d => x6 (ix2 e d)) e) (Ideal.ofBits .f32 0x44800000#32) := by
  pointwise [val_main_v28, val_main_v27, val_main_cst_4, val_main_v26]
  rw [val_main_v25_apply]
  have e : ∀ k, idx_main_v25 (ix2 b s) k = ix3 b s k := fun k => by funext a; fin_cases a <;> rfl
  have h0 : val_main_cst_3 (F := Ideal) (Shape.Idx.first h_S_) = 0 := Ideal.ofBits_zero_f32
  simp only [e, h0, zero_add, val_main_v24_apply, v23_apply]
  rfl

/-- The reference's result before its last reshape. -/
theorem v37_apply (d : Fin 1024) : val_main_v37 (F := Ideal) x0 x1 x2 x3 x4 x5 x6 x7 (ix3 b s d)
    = normed (fun d => x0 (ix3 b s d)) (proj (rmix x1 x2 x3 x4 x5 b s) fun e d => x6 (ix2 e d)) (fun d => x7 (ix1 d)) d := by
  pointwise [val_main_v37, val_main_v36, val_main_v35, val_main_v34, val_main_v33, val_main_v32, val_main_v31, val_main_v30, val_main_v29, val_main_cst_5]
  rw [v28_apply, v23_apply]
  rfl

/-- The reference's result. -/
theorem v38_apply (R : Fin 32768) (d : Fin 1024) : val_main_v38 (F := Ideal) x0 x1 x2 x3 x4 x5 x6 x7 (ix2 R d)
    = val_main_v37 (F := Ideal) x0 x1 x2 x3 x4 x5 x6 x7 (ix3 (⟨R / 4096, by omega⟩ : Fin 8) (⟨R % 4096, by omega⟩ : Fin 4096) d) := by
  rw [val_main_v38_apply]
  refine congrArg _ (funext fun a => Fin.ext ?_)
  fin_cases a
  · change ((R : ℕ) * 1024 + d) / 4194304 = R / 4096; omega
  · change ((R : ℕ) * 1024 + d) / 1024 % 4096 = R % 4096; omega
  · change ((R : ℕ) * 1024 + d) % 1024 = d; omega

end

end Cert.Out
-- ==== Proof.OutAsm.lean ====
/-
  The output projection, assembled: what the kernel's windows read, and that the array the kernel leaves is the
  reference's.
-/
module
public import proofs.«01_k».proof.Proof.Out

@[expose] public section

set_option maxRecDepth 16384

namespace Cert.OutAsm

open Idealize.ShloMosaic Idealize.ShloMosaic.TcCoe Cert.Kernel2Ideal Cert.Kernel2Ideal.Gen Cert.Out
open scoped BigOperators

/-- Which block of its array each window takes at a grid point (a strip of rows). -/
theorem idx_in : ∀ t : Fin grid0.N, win0_0.index t = ![(grid0.coords t 0).val, 0] ∧ win0_1.index t = ![(grid0.coords t 0).val, 0]
    ∧ win0_2.index t = ![(grid0.coords t 0).val, 0] ∧ win0_3.index t = ![(grid0.coords t 0).val, 8] ∧ win0_4.index t = ![(grid0.coords t 0).val, 9]
    ∧ win0_5.index t = ![0, 0] ∧ win0_6.index t = ![0, 0] ∧ win0_7.index t = ![0, 0] ∧ win0_8.index t = ![0, 0]
    ∧ win0_9.index t = ![(grid0.coords t 0).val, 0] := by decide +kernel

variable (m : (ℓ : Loc nD τ sig) → Buf (Elt Ideal) ℓ) (c : Dev nD) (t : Fin cfg0.N)

/-- A row of a strip, in the whole array. -/
def row (r : Fin 512) : Fin 32768 := ⟨(grid0.coords t 0 : ℕ) * 512 + r, by have := (grid0.coords t 0).isLt; change _ < 64 at this; omega⟩
/-- The batch of a row. -/
def hi (R : Fin 32768) : Fin 8 := ⟨R / 4096, by omega⟩
/-- The position of a row in its batch. -/
def lo (R : Fin 32768) : Fin 4096 := ⟨R % 4096, by omega⟩

/-- An array of batches and positions, its rows put in one line. -/
theorem flat_apply {A : Type} (n : ℕ) (a : (⟨3, ![8, 4096, n]⟩ : Shape).Idx → A) (h : Shape.ShapeCasts ⟨3, ![8, 4096, n]⟩ ⟨2, ![32768, n]⟩) (R : Fin 32768) (d : Fin n) :
    shapeCast ⟨2, ![32768, n]⟩ a h (ix2 R d) = a (ix3 (hi R) (lo R) d) := by
  refine shapeCast_apply a h _ _ ?_
  rw [Shape.rowMajor_val_three, Shape.rowMajor_val_two]
  change ((R : ℕ) / 4096 * 4096 + (R : ℕ) % 4096) * n + (d : ℕ) = (R : ℕ) * n + (d : ℕ)
  rw [show (R : ℕ) / 4096 * 4096 + (R : ℕ) % 4096 = R by omega]

/-- The strip of residuals read at a grid point. -/
theorem blk0 (r : Fin 512) (d : Fin 1024) : iblk m c 0 t (ix2 r d) = m ((c : Thread nD τ).loc main_arg0) (ix3 (hi (row t r)) (lo (row t r)) d) := by
  have e : V m c main_v0 = shapeCast S32768x1024 (m ((c : Thread nD τ).loc main_arg0)) shapeCasts_S8x4096x1024_S32768x1024 := by entry_read; rfl
  refine Eq.trans ?_ ((congrFun e (ix2 (row t r) d)).trans (flat_apply 1024 _ _ _ d))
  blk_ext [iblk, row, (idx_in t).1]

/-- The strip of the first branch's output. -/
theorem blk1 (r : Fin 512) (d : Fin 1024) : iblk m c 1 t (ix2 r d) = m ((c : Thread nD τ).loc main_arg1) (ix3 (hi (row t r)) (lo (row t r)) d) := by
  have e : V m c main_v1 = shapeCast S32768x1024 (m ((c : Thread nD τ).loc main_arg1)) shapeCasts_S8x4096x1024_S32768x1024 := by entry_read; rfl
  refine Eq.trans ?_ ((congrFun e (ix2 (row t r) d)).trans (flat_apply 1024 _ _ _ d))
  blk_ext [iblk, row, (idx_in t).2.1]

/-- The strip of the second branch's output. -/
theorem blk2 (r : Fin 512) (d : Fin 1024) : iblk m c 2 t (ix2 r d) = m ((c : Thread nD τ).loc main_arg2) (ix3 (hi (row t r)) (lo (row t r)) d) := by
  have e : V m c main_v2 = shapeCast S32768x1024 (m ((c : Thread nD τ).loc main_arg2)) shapeCasts_S8x4096x1024_S32768x1024 := by entry_read; rfl
  refine Eq.trans ?_ ((congrFun e (ix2 (row t r) d)).trans (flat_apply 1024 _ _ _ d))
  blk_ext [iblk, row, (idx_in t).2.2.1]

/-- The strip of the first branch's gates. -/
theorem blk3 (r : Fin 512) (d : Fin 1024) : iblk m c 3 t (ix2 r d) = m ((c : Thread nD τ).loc main_arg3) (ix3 (hi (row t r)) (lo (row t r)) (⟨8192 + d, by omega⟩ : Fin 10240)) := by
  have e : V m c main_v3 = shapeCast S32768x10240 (m ((c : Thread nD τ).loc main_arg3)) shapeCasts_S8x4096x10240_S32768x10240 := by entry_read; rfl
  refine Eq.trans ?_ ((congrFun e (ix2 (row t r) (⟨8192 + d, by omega⟩ : Fin 10240))).trans (flat_apply 10240 _ _ _ (⟨8192 + d, by omega⟩ : Fin 10240)))
  blk_ext [iblk, row, (idx_in t).2.2.2.1]

/-- The strip of the second branch's gates. -/
theorem blk4 (r : Fin 512) (d : Fin 1024) : iblk m c 4 t (ix2 r d) = m ((c : Thread nD τ).loc main_arg3) (ix3 (hi (row t r)) (lo (row t r)) (⟨9216 + d, by omega⟩ : Fin 10240)) := by
  have e : V m c main_v3 = shapeCast S32768x10240 (m ((c : Thread nD τ).loc main_arg3)) shapeCasts_S8x4096x10240_S32768x10240 := by entry_read; rfl
  refine Eq.trans ?_ ((congrFun e (ix2 (row t r) (⟨9216 + d, by omega⟩ : Fin 10240))).trans (flat_apply 10240 _ _ _ (⟨9216 + d, by omega⟩ : Fin 10240)))
  blk_ext [iblk, row, (idx_in t).2.2.2.2.1]

/-- The first branch's weights. -/
theorem blk5 (k d : Fin 1024) : iblk m c 5 t (ix2 k d) = m ((c : Thread nD τ).loc main_arg4) (ix2 k d) := by
  have e : V m c main_v4 = (truncf .bf16 (m ((c : Thread nD τ).loc main_arg4) : FVec Ideal S1024x1024 .f32) bitsLt_bf16_f32 : FVec Ideal S1024x1024 .bf16) := by entry_read; rfl
  refine Eq.trans ?_ (congrFun e (ix2 k d))
  blk_ext [iblk, (idx_in t).2.2.2.2.2.1]

/-- The second branch's weights. -/
theorem blk6 (k d : Fin 1024) : iblk m c 6 t (ix2 k d) = m ((c : Thread nD τ).loc main_arg5) (ix2 k d) := by
  have e : V m c main_v5 = (truncf .bf16 (m ((c : Thread nD τ).loc main_arg5) : FVec Ideal S1024x1024 .f32) bitsLt_bf16_f32 : FVec Ideal S1024x1024 .bf16) := by entry_read; rfl
  refine Eq.trans ?_ (congrFun e (ix2 k d))
  blk_ext [iblk, (idx_in t).2.2.2.2.2.2.1]

/-- The output weights. -/
theorem blk7 (k d : Fin 1024) : iblk m c 7 t (ix2 k d) = m ((c : Thread nD τ).loc main_arg6) (ix2 k d) := by
  have e : V m c main_v6 = (truncf .bf16 (m ((c : Thread nD τ).loc main_arg6) : FVec Ideal S1024x1024 .f32) bitsLt_bf16_f32 : FVec Ideal S1024x1024 .bf16) := by entry_read; rfl
  refine Eq.trans ?_ (congrFun e (ix2 k d))
  blk_ext [iblk, (idx_in t).2.2.2.2.2.2.2.1]

/-- The scale of the norm. -/
theorem blk8 (d : Fin 1024) : iblk m c 8 t (ix2 0 d) = m ((c : Thread nD τ).loc main_arg7) (ix1 d) := by
  have e : V m c main_v7 = shapeCast S1x1024 (m ((c : Thread nD τ).loc main_arg7)) shapeCasts_S1024_S1x1024 := by entry_read; rfl
  refine Eq.trans ?_ ((congrFun e (ix2 0 d)).trans ?_)
  · blk_ext [iblk, (idx_in t).2.2.2.2.2.2.2.2.1]
  · pointwise

/-- What the body leaves of its blocks, element by element. -/
theorem out_apply (x0 : Vec Ideal S512x1024 .f32) (x1 x2 x3 x4 : Vec Ideal S512x1024 .bf16) (x5 x6 x7 : Vec Ideal S1024x1024 .bf16) (x8 : Vec Ideal S1x1024 .f32)
    (r : Fin 512) (d : Fin 1024) :
    out0_9 (F := Ideal) x0 x1 x2 x3 x4 x5 x6 x7 x8 (ix2 r d)
      = normed (fun d => x0 (ix2 r d)) (proj (mix (fun k => x1 (ix2 r k)) (fun k => x2 (ix2 r k)) (fun k => x3 (ix2 r k)) (fun k => x4 (ix2 r k))
          (fun k e => x5 (ix2 k e)) fun k e => x6 (ix2 k e)) fun e d => x7 (ix2 e d)) (fun d => x8 (ix2 0 d)) d := by
  have e : out0_9 (F := Ideal) x0 x1 x2 x3 x4 x5 x6 x7 x8
      = k0_pay1 (k0_pay2 x1 x5 x2 x6 x3 x4) (k0_pay3 x7) (constant S512x1024 .f32 0x00000000#32) x0 x8 := by
    unfold out0_9
    frame_out
  rw [e, pay1_apply]
  congr 2
  funext e
  exact pay2_apply _ _ _ _ _ _ r e

/-- The place of an element of an output block, in the block and in the array. -/
theorem place (y : ((cfg0.win 9).xblock (cfg0.grid.coords t)).Idx) :
    ∃ (r : Fin 512) (d : Fin 1024), (cfg0.win 9).xinj (cfg0.grid.coords t) y = (ix2 r d : S512x1024.Idx)
      ∧ ((cfg0.win 9).blk t).view.emb y = (ix2 (row t r) d : S32768x1024.Idx) := by
  refine ⟨⟨y 0, (y 0).isLt⟩, ⟨y 1, (y 1).isLt⟩, ?_, ?_⟩
  · blk_ext [(idx_in t).2.2.2.2.2.2.2.2.2]
  · blk_ext [row, (idx_in t).2.2.2.2.2.2.2.2.2]

/-- The result the reference computes. -/
noncomputable abbrev G : S32768x1024.Idx → EReal :=
  Cert.Reference2Ideal.Read.val_main_v38 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

/-- The strip a grid point leaves, element by element, is the reference's. -/
theorem point_eq (r : Fin 512) (d : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r d)
      = G m c (ix2 (row t r) d) := by
  refine (out_apply _ _ _ _ _ _ _ _ _ r d).trans ?_
  simp only [blk0, blk1, blk2, blk3, blk4, blk5, blk6, blk7, blk8]
  exact ((v38_apply _ _ _ _ _ _ _ _ (row t r) d).trans (v37_apply _ _ _ _ _ _ _ _ _ _ d)).symm

/-- What a grid point leaves in the staging buffer of the output, element by element, is the reference's. -/
theorem after_point (r : Fin 512) (d : Fin 1024) : (dats m 0 c).after 9 t (ix2 r d : S512x1024.Idx) = G m c (ix2 (row t r) d) :=
  (congrFun (after0_9 m c t) _).trans (point_eq m c t r d)

/-- The array the kernel leaves is the reference's. -/
theorem arr_eq : (dats m 0 c).arrAt 9 cfg0.N = G m c := by
  refine (dats m 0 c).arrAt_eq_of_covers 9 _ (by decide +kernel) fun t hf y => ?_
  obtain ⟨r, d, h1, h2⟩ := place t y
  rw [cast_eq, h1, h2]
  exact after_point m c t r d

end Cert.OutAsm
-- ==== Proof.InRun.lean ====
/-
  The input projection's launch. The grid walks ten column blocks for each of the sixteen row blocks; at the first of the ten the
  body fills two buffers of its own — the rows scaled by the norm's weights, and the rows' inverse root mean squares — and the
  narrow result's block, and at every point it writes the wide result's block from those two buffers. All three depend on the row
  block alone, so what they hold after a point is stated with the blocks of that same point.
-/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.ValueKit
public import Idealize.ShloMosaic.Lib.Pipeline.TableIdle

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- A buffer written whole holds what was written. -/
theorem filled {Val : EltTy → Type} {κ : Kind} {sp : Space} {s : Shape} {e : EltTy} (v : View sig κ sp s e) (f : v.ty.Contents Val)
    {off : Fin s.rank → Nat} (inb : ∀ a, off a + s.size a ≤ s.size a) (w : s.Idx → Val e) (h : ∀ a, off a = 0) :
    v.read Val (v.writes Val f [⟨Rect.unit off s.size inb, w⟩]) = w := by
  have h' : off = fun _ => 0 := funext h
  subst h'
  exact View.read_writes_whole v f w

set_option maxHeartbeats 800000 in
/-- The body at the first column block of a row block. -/
theorem first (c : Dev nD) (i : grid0.Coords) (hc : k0_cond1 i = 1#1) (arg2 : Memref sig .tc .vmem S2048x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x128 .bf16) (harg5 : arg5.IsWhole)
    (arg6 : Memref sig .tc .vmem S2048x1024 .bf16) (harg6 : arg6.IsWhole) (arg7 : Memref sig .tc .vmem S2048x128 .f32) (harg7 : arg7.IsWhole)
    (arg8 : Memref sig .tc .vmem S2048x1024 .bf16) (harg8 : arg8.IsWhole) (arg9 : Memref sig .tc .vmem S2048x1 .f32) (harg9 : arg9.IsWhole)
    (x : Vec F S2048x1024 .f32) (nw : Vec F S1x1024 .f32) (w : Vec F S1024x1024 .bf16) (ws : Vec F S1024x128 .bf16) (E : Set ℕ) (K : PUnit → sProp 𝕄) :
    iprop(owns (c : Thread nD τ) arg2 fullShare x ∗ owns (c : Thread nD τ) arg3 fullShare nw ∗ owns (c : Thread nD τ) arg4 fullShare w ∗ owns (c : Thread nD τ) arg5 fullShare ws ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare nw ∗ owns (c : Thread nD τ) arg4 fullShare w ∗ owns (c : Thread nD τ) arg5 fullShare ws ∗ owns (c : Thread nD τ) arg6 fullShare (k0_pay7 (k0_pay5 x nw) w (k0_pay3 x)) ∗ owns (c : Thread nD τ) arg7 fullShare (k0_pay6 x nw ws) ∗ owns (c : Thread nD τ) arg8 fullShare (k0_pay5 x nw) ∗ owns (c : Thread nD τ) arg9 fullShare (k0_pay3 x)) -∗ K ⟨⟩))
      ⊢ wp frame (wpE (defs₀ (F := F)) Variants.none c none) E (cc0_in_projection i arg2 harg2 arg3 harg3 arg4 harg4 arg5 harg5 arg6 harg6 arg7 harg7 arg8 harg8 arg9 harg9) K := by
  simp only [cc0_in_projection_eq_skeleton]; unfold cc0_in_projection_skel
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, Hk⟩
  obtain rfl := harg2.eq_unread h2; obtain rfl := harg3.eq_unread h3; obtain rfl := harg4.eq_unread h4; obtain rfl := harg5.eq_unread h5
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; (exact (filled _ _ _ _ (by decide)).trans (by simp (disch := decide) only [View.ld_unit_lit', View.readCov_unit_lit', View.readAt_eq_ld, Memref.IsWhole.read_unread]))
  isplitl [H7]
  · iexists _; isplitr
    swap; · iexact H7
    ipureintro; sl_unfold_run_names; (exact (filled _ _ _ _ (by decide)).trans (by simp (disch := decide) only [View.ld_unit_lit', View.readCov_unit_lit', View.readAt_eq_ld, Memref.IsWhole.read_unread]))
  isplitl [H8]
  · iexists _; isplitr
    swap; · iexact H8
    ipureintro; sl_unfold_run_names; (exact (filled _ _ _ _ (by decide)).trans (by simp (disch := decide) only [View.ld_unit_lit', View.readCov_unit_lit', View.readAt_eq_ld, Memref.IsWhole.read_unread]))
  iexists _; isplitr
  swap; · iexact H9
  ipureintro; sl_unfold_run_names; (exact (filled _ _ _ _ (by decide)).trans (by simp (disch := decide) only [View.ld_unit_lit', View.readCov_unit_lit', View.readAt_eq_ld, Memref.IsWhole.read_unread]))

set_option maxHeartbeats 800000 in
/-- The body at a later column block: what the first one left is read and stays. -/
theorem later (c : Dev nD) (i : grid0.Coords) (hc : ¬k0_cond1 i = 1#1) (arg2 : Memref sig .tc .vmem S2048x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x128 .bf16) (harg5 : arg5.IsWhole)
    (arg6 : Memref sig .tc .vmem S2048x1024 .bf16) (harg6 : arg6.IsWhole) (arg7 : Memref sig .tc .vmem S2048x128 .f32) (harg7 : arg7.IsWhole)
    (arg8 : Memref sig .tc .vmem S2048x1024 .bf16) (harg8 : arg8.IsWhole) (arg9 : Memref sig .tc .vmem S2048x1 .f32) (harg9 : arg9.IsWhole)
    (x : Vec F S2048x1024 .f32) (nw : Vec F S1x1024 .f32) (w : Vec F S1024x1024 .bf16) (ws : Vec F S1024x128 .bf16) (E : Set ℕ) (K : PUnit → sProp 𝕄) :
    iprop(owns (c : Thread nD τ) arg2 fullShare x ∗ owns (c : Thread nD τ) arg3 fullShare nw ∗ owns (c : Thread nD τ) arg4 fullShare w ∗ owns (c : Thread nD τ) arg5 fullShare ws ∗ (∃ d, owns (c : Thread nD τ) arg6 fullShare d) ∗ owns (c : Thread nD τ) arg7 fullShare (k0_pay6 x nw ws) ∗ owns (c : Thread nD τ) arg8 fullShare (k0_pay5 x nw) ∗ owns (c : Thread nD τ) arg9 fullShare (k0_pay3 x)
        ∗ (iprop(owns (c : Thread nD τ) arg2 fullShare x ∗ owns (c : Thread nD τ) arg3 fullShare nw ∗ owns (c : Thread nD τ) arg4 fullShare w ∗ owns (c : Thread nD τ) arg5 fullShare ws ∗ owns (c : Thread nD τ) arg6 fullShare (k0_pay7 (k0_pay5 x nw) w (k0_pay3 x)) ∗ owns (c : Thread nD τ) arg7 fullShare (k0_pay6 x nw ws) ∗ owns (c : Thread nD τ) arg8 fullShare (k0_pay5 x nw) ∗ owns (c : Thread nD τ) arg9 fullShare (k0_pay3 x)) -∗ K ⟨⟩))
      ⊢ wp frame (wpE (defs₀ (F := F)) Variants.none c none) E (cc0_in_projection i arg2 harg2 arg3 harg3 arg4 harg4 arg5 harg5 arg6 harg6 arg7 harg7 arg8 harg8 arg9 harg9) K := by
  simp only [cc0_in_projection_eq_skeleton]; unfold cc0_in_projection_skel
  unfold owns
  iintro ⟨⟨%f2, %h2, H2⟩, ⟨%f3, %h3, H3⟩, ⟨%f4, %h4, H4⟩, ⟨%f5, %h5, H5⟩, ⟨%d6, %f6, -, H6⟩, ⟨%f7, %h7, H7⟩, ⟨%f8, %h8, H8⟩, ⟨%f9, %h9, H9⟩, Hk⟩
  obtain rfl := harg2.eq_unread h2; obtain rfl := harg3.eq_unread h3; obtain rfl := harg4.eq_unread h4; obtain rfl := harg5.eq_unread h5
  obtain rfl := harg7.eq_unread h7; obtain rfl := harg8.eq_unread h8; obtain rfl := harg9.eq_unread h9
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; (exact (filled _ _ _ _ (by decide)).trans (by simp (disch := decide) only [View.ld_unit_lit', View.readCov_unit_lit', View.readAt_eq_ld, Memref.IsWhole.read_unread]))
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.InRun

end
-- ==== Proof.InFrame.lean ====
/-
  The input projection's launch: what every buffer holds at every point, the body's obligation there, and the run.
-/
module

public import proofs.«01_k».proof.Proof.InRun

@[expose] public section

set_option maxRecDepth 16384

noncomputable section

namespace Cert.InFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen Cert.InRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's two own buffers. -/
abbrev sh : Memref sig .tc .vmem S2048x1024 .bf16 := Memref.whole cc0_scratch0
abbrev si : Memref sig .tc .vmem S2048x1 .f32 := Memref.whole cc0_scratch1

/-- The launch's own state is the body's two buffers at anything, beside the generator register. -/
theorem own_eq (c : Dev nD) :
    (Pipeline.ΦA spec0 c : sProp 𝕄)
      = iprop(iprop((∃ d, owns (c : Thread nD τ) sh fullShare d) ∗ (∃ d, owns (c : Thread nD τ) si fullShare d)) ∗ (∃ r, prngReg c r)) := by
  unfold Pipeline.ΦA; rw [scopedRest0_eq]; simp only [sh, si, owns_whole]; rfl

/-- The first column block's condition holds at every tenth point. -/
theorem cond_true (t : Fin cfg0.N) (h : t.val % 10 = 0) : k0_cond1 (grid0.coords t) = 1#1 := by
  revert t; decide +kernel
theorem cond_false (t : Fin cfg0.N) (h : ¬t.val % 10 = 0) : ¬k0_cond1 (grid0.coords t) = 1#1 := by
  revert t; decide +kernel

/-- The two buffers at a row block's first point hold anything; at its later ones, what the row block's first left. -/
def held (c : Dev nD) (n : ℕ) (hn : n ≤ cfg0.N) : sProp 𝕄 :=
  if h : n % 10 = 0 then Pipeline.ΦA spec0 c
  else
    have ht : n < cfg0.N := lt_of_le_of_ne hn fun e => h (by rw [e]; decide)
    iprop(iprop(owns (c : Thread nD τ) sh fullShare (k0_pay5 (iblk m c 0 ⟨n, ht⟩) (iblk m c 1 ⟨n, ht⟩))
      ∗ owns (c : Thread nD τ) si fullShare (k0_pay3 (iblk m c 0 ⟨n, ht⟩))) ∗ (∃ r, prngReg c r))

/-- The launch's data: every window's array as the host leaves it, and every window's block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay7 (k0_pay5 (iblk m c 0 t) (iblk m c 1 t)) (iblk m c 2 t) (k0_pay3 (iblk m c 0 t))
    | ⟨5, _⟩ => k0_pay6 (iblk m c 0 t) (iblk m c 1 t) (iblk m c 3 t)
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay7 (k0_pay5 (iblk m c 0 t) (iblk m c 1 t)) (iblk m c 2 t) (k0_pay3 (iblk m c 0 t)) := by dsimp only [dats]
theorem after_5 (c : Dev nD) (t : Fin cfg0.N) :
    (dats m 0 c).after 5 t = k0_pay6 (iblk m c 0 t) (iblk m c 1 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The point before. -/
abbrev pred (t : Fin cfg0.N) : Fin cfg0.N := ⟨t.val - 1, Nat.lt_of_le_of_lt (Nat.sub_le _ _) t.isLt⟩

/-- Within a row block the rows, the norm's weights and the narrow weights are the same blocks at every point. -/
theorem same_0 (c : Dev nD) (t : Fin cfg0.N) (h : ¬t.val % 10 = 0) : iblk m c 0 (pred t) = iblk m c 0 t := by
  have hf : (cfg0.win 0).fetch t = false := by rw [← Bool.not_eq_true]; exact fun e => h ((fetch0_0 t).mp e)
  have hi := ((cfg0.win 0).index_eq_of_fetch rfl t hf).2
  have e := (dats m 0 c).fetched_congr 0 hi.symm rfl (iblk m c 0 t)
  exact e
theorem same_1 (c : Dev nD) (t : Fin cfg0.N) (h : ¬t.val % 10 = 0) : iblk m c 1 (pred t) = iblk m c 1 t := by
  have hf : (cfg0.win 1).fetch t = false := by
    rw [← Bool.not_eq_true]; exact fun e => h (by have := (fetch0_1 t).mp e; omega)
  have hi := ((cfg0.win 1).index_eq_of_fetch rfl t hf).2
  have e := (dats m 0 c).fetched_congr 1 hi.symm rfl (iblk m c 1 t)
  exact e
theorem same_3 (c : Dev nD) (t : Fin cfg0.N) (h : ¬t.val % 10 = 0) : iblk m c 3 (pred t) = iblk m c 3 t := by
  have hf : (cfg0.win 3).fetch t = false := by
    rw [← Bool.not_eq_true]; exact fun e => h (by have := (fetch0_3 t).mp e; omega)
  have hi := ((cfg0.win 3).index_eq_of_fetch rfl t hf).2
  have e := (dats m 0 c).fetched_congr 3 hi.symm rfl (iblk m c 3 t)
  exact e

theorem idle_true (t : Fin cfg0.N) (h : ¬t.val % 10 = 0) : cfg0.idle 5 (grid0.coords t) = true := by
  revert t; decide +kernel
theorem idle_false (t : Fin cfg0.N) (h : t.val % 10 = 0) : cfg0.idle 5 (grid0.coords t) = false := by
  revert t; decide +kernel

/-- The narrow result's buffer holds nothing of the row block's at its first point, and something at its others. -/
theorem fresh_eq (t : Fin cfg0.N) : cfg0.fresh 5 t.val = decide (t.val % 10 = 0) := by
  refine cfg0.fresh_tab 5 (fun n => decide (n % 10 = 0)) rfl (fun t => ?_) t.val (Nat.le_of_lt t.isLt)
  have hf := flush0_5 t
  by_cases h : t.val % 10 = 0
  · have hn : (cfg0.win 5).flush t = false := by rw [← Bool.not_eq_true]; exact fun e => by have := hf.mp e; omega
    have hi : cfg0.idle 5 (cfg0.grid.coords t) = false := idle_false t h
    rw [hn, hi]; simp only [Bool.false_and, Bool.or_false, decide_eq_false_iff_not]; omega
  · by_cases h9 : t.val % 10 = 9
    · rw [hf.mpr h9]; simp only [Bool.true_or, decide_eq_true_eq]; omega
    · have hn : (cfg0.win 5).flush t = false := by rw [← Bool.not_eq_true]; exact fun e => h9 (hf.mp e)
      rw [hn]; simp only [h, decide_false, Bool.and_false, Bool.or_false, decide_eq_false_iff_not]; omega

theorem carry (c : Dev nD) (t : Fin cfg0.N) (h : ¬t.val % 10 = 0) : (dats m 0 c).after 5 t = (dats m 0 c).after 5 (pred t) := by
  rw [after_5, after_5, same_0 m c t h, same_1 m c t h, same_3 m c t h]

theorem before_5 (c : Dev nD) (t : Fin cfg0.N) (h : ¬t.val % 10 = 0) (d) : (dats m 0 c).before 5 t d = (dats m 0 c).after 5 t := by
  rw [(dats m 0 c).before_out_traj 5 rfl (fun _ _ => rfl) (fun t _ _ hf => carry m c t fun e => by
    rw [fresh_eq t] at hf; exact absurd e (of_decide_eq_false hf)) t.val t rfl d, fresh_eq t, carry m c t h]
  simp only [h, decide_false]
  rfl

/-- The state at a point's start. -/
theorem state_first (c : Dev nD) (t : Fin cfg0.N) (h : t.val % 10 = 0) :
    (dats m 0 c).Φ t.castSucc = Pipeline.ΦA spec0 c := by
  refine (Pipeline.Dat.Φ_castSucc (held m c) t).trans ?_
  unfold held; rw [dif_pos h]
theorem state_later (c : Dev nD) (t : Fin cfg0.N) (h : ¬t.val % 10 = 0) :
    (dats m 0 c).Φ t.castSucc = iprop(iprop(owns (c : Thread nD τ) sh fullShare (k0_pay5 (iblk m c 0 t) (iblk m c 1 t))
      ∗ owns (c : Thread nD τ) si fullShare (k0_pay3 (iblk m c 0 t))) ∗ (∃ r, prngReg c r)) := by
  refine (Pipeline.Dat.Φ_castSucc (held m c) t).trans ?_
  unfold held; rw [dif_neg h]
/-- The state at a point's end follows from what its body leaves. -/
theorem state_next (c : Dev nD) (t : Fin cfg0.N) :
    iprop(iprop(owns (c : Thread nD τ) sh fullShare (k0_pay5 (iblk m c 0 t) (iblk m c 1 t))
      ∗ owns (c : Thread nD τ) si fullShare (k0_pay3 (iblk m c 0 t))) ∗ (∃ r, prngReg c r)) ⊢ (dats m 0 c).Φ t.succ := by
  show _ ⊢ held m c (t.val + 1) (Nat.succ_le_of_lt t.isLt)
  unfold held
  by_cases h : (t.val + 1) % 10 = 0
  · rw [dif_pos h, own_eq]
    iintro ⟨⟨Ha, Hb⟩, Hg⟩
    isplitl [Ha Hb]
    · isplitl [Ha]
      · iexists _; iexact Ha
      · iexists _; iexact Hb
    iexact Hg
  · have ht : t.val + 1 < cfg0.N := lt_of_le_of_ne t.isLt fun e => h (by rw [e]; decide)
    have e0 : iblk m c 0 t = iblk m c 0 ⟨t.val + 1, ht⟩ := same_0 m c ⟨t.val + 1, ht⟩ h
    have e1 : iblk m c 1 t = iblk m c 1 ⟨t.val + 1, ht⟩ := same_1 m c ⟨t.val + 1, ht⟩ h
    rw [dif_neg h, e0, e1]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
theorem sound_first (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, after_5, state_first m c t h, own_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (first c (grid0.coords t) (cond_true t h) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iapply (state_next m c t)
    isplitl [HS0 HS1]
    · isplitl [HS0]
      · iexact HS0
      · iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 800000 in
theorem sound_later (c : Dev nD) (t : Fin cfg0.N) (h : ¬t.val % 10 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_5 m c t h]
  rw [show (dats m 0 c).owesAt () t.succ = (dats m 0 c).owesAt () t.castSucc from rfl,
    after_0, after_1, after_2, after_3, after_4, after_5, state_later m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (later c (grid0.coords t) (cond_false t h) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · iapply (state_next m c t)
    isplitl [HS0 HS1]
    · isplitl [HS0]
      · iexact HS0
      · iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) :
    defs₀ (F := F) .tc cfg0.body (cfg0.bodyArgs t (cfg0.slots t)) = bodyAt0 t := by
  unfold defs₀; rw [Defs.onTc_tc]

/-- What the body leaves in the narrow result's buffer, in the form the launch asks: at a point that neither stores into it nor
    writes it back, what it held. -/
theorem narrow (c : Dev nD) (t : Fin cfg0.N) :
    (owns (c : Thread nD τ) (st0_5 t) fullShare ((dats m 0 c).after 5 t) : sProp 𝕄) ⊢
      (match cfg0.idle 5 (cfg0.grid.coords t) with
        | true =>
          match (cfg0.win 5).flush t with
          | false => iprop(∃ d, owns (c : Thread nD τ) (st0_5 t) fullShare ((dats m 0 c).before 5 t d))
          | true => owns (c : Thread nD τ) (st0_5 t) fullShare ((dats m 0 c).after 5 t)
        | false => owns (c : Thread nD τ) (st0_5 t) fullShare ((dats m 0 c).after 5 t)) := by
  by_cases h : t.val % 10 = 0
  · have hi : cfg0.idle 5 (cfg0.grid.coords t) = false := idle_false t h
    rw [hi]
  · have hi : cfg0.idle 5 (cfg0.grid.coords t) = true := idle_true t h
    rw [hi]
    cases hf : (cfg0.win 5).flush t
    · simp only [before_5 m c t h]
      iintro H
      iexists (dats m 0 c).after 5 t
      iexact H
    · exact .rfl

/-- The launch's obligation at every point. -/
theorem body_obligation (c : Dev nD) : BodyObligation (dats (F := F) m 0 c) (defs₀ (F := F)) Variants.none () Set.univ := fun t => by
  rw [bigSep_W0, bigSep_W0, row]
  refine triple_restated (if h : t.val % 10 = 0 then sound_first m c t h else sound_later m c t h) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (narrow m c t)
  iexact H5

set_option backward.isDefEq.respectTransparency.types false in
/-- The run: every array at what the launch's data give, every other buffer as the host leaves it, and no counter left. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m)
    (hin := fun c => by
      show _ ⊢ held m c 0 (Nat.zero_le _)
      unfold held; rw [dif_pos rfl])
    (hout := fun c => by
      show held m c cfg0.N le_rfl ⊢ _
      unfold held; rw [dif_pos (by decide)])

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InFrame

end
-- ==== Proof.In.lean ====
/-
  The input projection, element by element: what the kernel's body computes of a block, and what the reference computes
  of its arguments, are one function of the rows they read.
-/
module
public import proofs.«01_k».proof.Proof.InFrame
public import proofs.«01_k».proof.Proof.Gen.Reference3Ideal.Read
public import Idealize.ShloMosaic.Lib.Pipeline.ValueKit
public import Idealize.ShloMosaic.Lib.Claim
public import Idealize.ShloMosaic.Lib.Pointwise.IndexVar

@[expose] public section

set_option maxRecDepth 16384

namespace Cert.In

open Idealize.ShloMosaic Idealize.ShloMosaic.TcCoe
open scoped BigOperators

/-- The reciprocal of a row's root mean square. -/
noncomputable def inv (x : Fin 1024 → EReal) : EReal :=
  Ideal.rsqrt (Ideal.div (∑ e, x e * x e) (Ideal.ofBits .f32 0x44800000#32) + Ideal.ofBits .f32 0x358637BD#32)

/-- A row divided by its root mean square and scaled lane by lane, against one column of weights. -/
noncomputable def proj (x nw w : Fin 1024 → EReal) : EReal := ∑ k, x k * inv x * nw k * w k

/-- The number of lanes, as the programs write it. -/
theorem word_lanes : Ideal.ofBits .f32 0x44800000#32 = ((1024 : ℝ) : EReal) := by
  simp [Ideal.ofBits, Ideal.ieee, -EReal.coe_mul]; norm_num

/-- The constant added to the mean square is a positive number. -/
theorem word_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- A square is not negative, at the infinities too. -/
theorem square_nonneg (x : EReal) : 0 ≤ x * x := by
  induction x with
  | bot => simp
  | top => simp
  | coe r => rw [← EReal.coe_mul]; exact_mod_cast mul_self_nonneg r

/-- The mean square of a row is not negative. -/
theorem mean_nonneg (x : Fin 1024 → EReal) : 0 ≤ Ideal.div (∑ e, x e * x e) (Ideal.ofBits .f32 0x44800000#32) := by
  have h : (0 : EReal) ≤ ((1024 : ℝ) : EReal)⁻¹ := by rw [← EReal.coe_inv]; exact_mod_cast (by norm_num : (0 : ℝ) ≤ (1024 : ℝ)⁻¹)
  have h0 : ((1024 : ℝ) : EReal) ≠ 0 := by exact_mod_cast (by norm_num : (1024 : ℝ) ≠ 0)
  rw [word_lanes, Ideal.div, if_neg h0]
  exact mul_nonneg (Finset.sum_nonneg fun e _ => square_nonneg (x e)) h

/-- The reciprocal square root of a positive number is a number, and not negative. -/
theorem rsqrt_pos (z : EReal) (hz : 0 < z) : 0 ≤ Ideal.rsqrt z ∧ Ideal.rsqrt z ≠ ⊤ := by
  induction z with
  | bot => simp at hz
  | top => simp
  | coe r =>
    have hr : 0 < r := by exact_mod_cast hz
    rw [Ideal.rsqrt_coe, if_neg (not_lt.2 hr.le), if_neg hr.ne']
    exact ⟨by exact_mod_cast inv_nonneg.2 (Real.sqrt_nonneg r), EReal.coe_ne_top _⟩

/-- The scale of a row is a number, and not negative. -/
theorem inv_pos (x : Fin 1024 → EReal) : 0 ≤ inv x ∧ inv x ≠ ⊤ := by
  obtain ⟨r, hr, e⟩ := word_eps
  refine rsqrt_pos _ (lt_of_lt_of_le ?_ (le_add_of_nonneg_left (mean_nonneg x)))
  rw [e]
  exact_mod_cast hr

/-- A number that is not negative comes out of a sum. -/
theorem sum_mul_num {ι : Type} (s : Finset ι) (f : ι → EReal) (a : EReal) (h0 : 0 ≤ a) (h1 : a ≠ ⊤) : (∑ k ∈ s, f k) * a = ∑ k ∈ s, f k * a := by
  classical
  induction s using Finset.induction_on with
  | empty => simp
  | insert k s hk ih => rw [Finset.sum_insert hk, Finset.sum_insert hk, EReal.right_distrib_of_nonneg_of_ne_top h0 h1, ih]

/-- The row may be divided by its root mean square after the product with the weights. -/
theorem late_scale (x nw w : Fin 1024 → EReal) : (∑ k, x k * nw k * w k) * inv x = proj x nw w := by
  rw [sum_mul_num _ _ _ (inv_pos x).1 (inv_pos x).2]
  refine Finset.sum_congr rfl fun k _ => ?_
  ac_rfl

/-- Against a column of zeros the projection is zero. -/
theorem proj_zero (x nw : Fin 1024 → EReal) : proj x nw (fun _ => 0) = 0 := by
  simp [proj]

section
open Cert.Kernel3Ideal Cert.Kernel3Ideal.Gen

/-- The scales the body computes of a block of rows. -/
theorem pay2_apply (x : Vec Ideal S2048x1024 .f32) (r : Fin 2048) (u : Fin 1) : k0_pay2 (F := Ideal) x (ix2 r u) = inv fun k => x (ix2 r k) := by
  pointwise [k0_pay2, k0_pay1]
  unfold inv
  pointwise

/-- The scales the body keeps for the later blocks of the same rows. -/
theorem pay3_apply (x : Vec Ideal S2048x1024 .f32) (r : Fin 2048) (u : Fin 1) : k0_pay3 (F := Ideal) x (ix2 r u) = inv fun k => x (ix2 r k) := by
  pointwise [k0_pay3]
  exact pay2_apply x r _

/-- The wide block the body stores. -/
theorem wide_apply (x : Vec Ideal S2048x1024 .f32) (nw : Vec Ideal S1x1024 .f32) (w : Vec Ideal S1024x1024 .bf16) (r : Fin 2048) (d : Fin 1024) :
    k0_pay7 (F := Ideal) (k0_pay5 x nw) w (k0_pay3 x) (ix2 r d) = proj (fun k => x (ix2 r k)) (fun k => nw (ix2 0 k)) (fun k => w (ix2 k d)) := by
  rw [← late_scale]
  pointwise [k0_pay7, k0_pay5, k0_pay4, k0_pay1]
  rw [pay3_apply]

/-- The narrow block the body stores. -/
theorem narrow_apply (x : Vec Ideal S2048x1024 .f32) (nw : Vec Ideal S1x1024 .f32) (w : Vec Ideal S1024x128 .bf16) (r : Fin 2048) (l : Fin 128) :
    k0_pay6 (F := Ideal) x nw w (ix2 r l) = proj (fun k => x (ix2 r k)) (fun k => nw (ix2 0 k)) (fun k => w (ix2 k l)) := by
  rw [← late_scale]
  have e : k0_pay2 (F := Ideal) x (ix2 r 0) = inv fun k => x (ix2 r k) := pay2_apply x r 0
  pointwise [k0_pay6, k0_pay4, k0_pay1]
  rw [e]

end

section
open Cert.Reference3Ideal Cert.Reference3Ideal.Gen Cert.Reference3Ideal.Read

variable (x0 : (⟨S8x4096x1024, .f32⟩ : BufTy).Contents (Elt Ideal)) (x1 : (⟨S1024, .f32⟩ : BufTy).Contents (Elt Ideal))
  (x2 : (⟨S1024x10256, .f32⟩ : BufTy).Contents (Elt Ideal)) (b : Fin 8) (s : Fin 4096)

/-- The mean square of a row. -/
theorem v4_apply (u : Fin 1) : val_main_v4 (F := Ideal) x0 (ix3 b s u)
    = Ideal.div (∑ e, x0 (ix3 b s e) * x0 (ix3 b s e)) (Ideal.ofBits .f32 0x44800000#32) := by
  pointwise [val_main_v4, val_main_v3, val_main_cst_0, val_main_v2]
  rw [val_main_v1_apply]
  have e : ∀ k, idx_main_v1 (ix2 b s) k = ix3 b s k := fun k => by funext a; fin_cases a <;> rfl
  have h0 : val_main_cst (F := Ideal) (Shape.Idx.first h_S_) = 0 := Ideal.ofBits_zero_f32
  simp only [e, h0, zero_add, val_main_v0_apply]
  rfl

/-- A normed row, lane by lane. -/
theorem v12_apply (k : Fin 1024) : val_main_v12 (F := Ideal) x0 x1 (ix3 b s k)
    = x0 (ix3 b s k) * inv (fun k => x0 (ix3 b s k)) * x1 (ix1 k) := by
  pointwise [val_main_v12, val_main_v11, val_main_v10, val_main_v9, val_main_v8, val_main_v7, val_main_v6, val_main_v5, val_main_cst_1]
  rw [v4_apply]
  rfl

/-- The reference's product with the whole of the weights. -/
theorem v13_apply (e : Fin 10256) : val_main_v13 (F := Ideal) x0 x1 x2 (ix3 b s e)
    = proj (fun k => x0 (ix3 b s k)) (fun k => x1 (ix1 k)) (fun k => x2 (ix2 k e)) := by
  rw [val_main_v13_apply]
  refine Finset.sum_congr rfl fun k _ => congrArg₂ (· * ·) ?_ (congrArg x2 (by funext a; fin_cases a <;> rfl))
  rw [← v12_apply]
  exact congrArg _ (by funext a; fin_cases a <;> rfl)

end

end Cert.In
-- ==== Proof.InAsm.lean ====
/-
  The input projection, assembled: what the kernel's windows read, and that the two arrays the kernel leaves are the
  reference's.
-/
module
public import proofs.«01_k».proof.Proof.In
public import proofs.«01_k».proof.Proof.OutAsm

@[expose] public section

set_option maxRecDepth 16384

namespace Cert.InAsm

open Idealize.ShloMosaic Idealize.ShloMosaic.TcCoe Cert.In
open Cert.OutAsm (hi lo flat_apply)
open scoped BigOperators

/-- The column of the weights behind a wide column: the sixteen narrow ones are left out. -/
def col (e : Fin 10240) : Fin 10256 := if h : (e : ℕ) < 8192 then ⟨e, by omega⟩ else ⟨e + 16, by omega⟩

/-- The first columns keep their place. -/
theorem col_left (e : Fin 10240) (h : (e : ℕ) < 8192) : col e = ⟨e, by omega⟩ := dif_pos h

/-- The other columns lie behind the narrow ones. -/
theorem col_right (e : Fin 10240) (h : ¬ (e : ℕ) < 8192) : col e = ⟨8208 + (e - 8192), by omega⟩ :=
  (dif_neg h).trans (Fin.ext (show (e : ℕ) + 16 = 8208 + (e - 8192) by omega))

/-- The whole number zero, as a float. -/
theorem float_zero : FloatOps.sitofp (F := Ideal) .f32 0#32 = (0 : EReal) := by
  change (((0#32 : BitVec 32).toInt : ℝ) : EReal) = 0
  simp

section
open Cert.Reference3Ideal Cert.Reference3Ideal.Gen Cert.Reference3Ideal.Read

variable (x0 : (⟨S8x4096x1024, .f32⟩ : BufTy).Contents (Elt Ideal)) (x1 : (⟨S1024, .f32⟩ : BufTy).Contents (Elt Ideal))
  (x2 : (⟨S1024x10256, .f32⟩ : BufTy).Contents (Elt Ideal)) (b : Fin 8) (s : Fin 4096)

/-- The reference's wide columns, put side by side. -/
theorem v16_apply (e : Fin 10240) : val_main_v16 (F := Ideal) x0 x1 x2 (ix3 b s e) = val_main_v13 (F := Ideal) x0 x1 x2 (ix3 b s (col e)) := by
  pointwise [val_main_v16, val_main_v15, val_main_v14]
  by_cases h : (e : ℕ) < 8192
  · rw [dif_pos h, col_left e h]
  · rw [dif_neg h, col_right e h]

/-- The reference's first result. -/
theorem v20_apply (R : Fin 32768) (e : Fin 10240) : val_main_v20 (F := Ideal) x0 x1 x2 (ix2 R e)
    = proj (fun k => x0 (ix3 (hi R) (lo R) k)) (fun k => x1 (ix1 k)) (fun k => x2 (ix2 k (col e))) := by
  rw [← v13_apply, ← v16_apply]
  exact flat_apply 10240 (val_main_v16 (F := Ideal) x0 x1 x2) _ R e

/-- The reference's narrow columns: sixteen of the weights, and zeros. -/
theorem v18_apply (l : Fin 128) : val_main_v18 (F := Ideal) x0 x1 x2 (ix3 b s l)
    = if h : (l : ℕ) < 16 then val_main_v13 (F := Ideal) x0 x1 x2 (ix3 b s (⟨8192 + l, by omega⟩ : Fin 10256)) else 0 := by
  pointwise [val_main_v18, val_main_v17, val_main_call0_v0, val_main_c]
  rw [float_zero]

/-- The reference's second result. -/
theorem v21_apply (R : Fin 32768) (l : Fin 128) : val_main_v21 (F := Ideal) x0 x1 x2 (ix2 R l)
    = proj (fun k => x0 (ix3 (hi R) (lo R) k)) (fun k => x1 (ix1 k)) (fun k => if h : (l : ℕ) < 16 then x2 (ix2 k (⟨8192 + l, by omega⟩ : Fin 10256)) else 0) := by
  refine (flat_apply 128 (val_main_v18 (F := Ideal) x0 x1 x2) _ R l).trans ((v18_apply _ _ _ _ _ l).trans ?_)
  by_cases h : (l : ℕ) < 16
  · simp only [dif_pos h]
    exact v13_apply _ _ _ _ _ _
  · simp only [dif_neg h]
    exact (proj_zero _ _).symm

end

open Cert.Kernel3Ideal Cert.Kernel3Ideal.Gen Cert.InFrame

/-- Which block of its array each window takes at a grid point. -/
theorem idx_in : ∀ t : Fin grid0.N, win0_0.index t = ![(grid0.coords t 0).val, 0] ∧ win0_1.index t = ![0, 0]
    ∧ win0_2.index t = ![0, (grid0.coords t 1).val] ∧ win0_3.index t = ![0, 0] ∧ win0_4.index t = ![(grid0.coords t 0).val, (grid0.coords t 1).val]
    ∧ win0_5.index t = ![(grid0.coords t 0).val, 0] := by decide +kernel

variable (m : (ℓ : Loc nD τ sig) → Buf (Elt Ideal) ℓ) (c : Dev nD) (t : Fin cfg0.N)

/-- A row of a strip, in the whole array. -/
def row (r : Fin 2048) : Fin 32768 := ⟨(grid0.coords t 0 : ℕ) * 2048 + r, by have := (grid0.coords t 0).isLt; change _ < 16 at this; omega⟩
/-- A column of a block, in the whole array. -/
def lane (d : Fin 1024) : Fin 10240 := ⟨(grid0.coords t 1 : ℕ) * 1024 + d, by have := (grid0.coords t 1).isLt; change _ < 10 at this; omega⟩

/-- The strip of rows read at a grid point. -/
theorem blk0 (r : Fin 2048) (d : Fin 1024) : iblk m c 0 t (ix2 r d) = m ((c : Thread nD τ).loc main_arg0) (ix3 (hi (row t r)) (lo (row t r)) d) := by
  have e : V m c main_v7 = shapeCast S32768x1024 (m ((c : Thread nD τ).loc main_arg0)) shapeCasts_S8x4096x1024_S32768x1024 := by entry_read; rfl
  refine Eq.trans ?_ ((congrFun e (ix2 (row t r) d)).trans (flat_apply 1024 _ _ _ d))
  blk_ext [iblk, row, (idx_in t).1]

/-- The scale of the norm. -/
theorem blk1 (d : Fin 1024) : iblk m c 1 t (ix2 0 d) = m ((c : Thread nD τ).loc main_arg1) (ix1 d) := by
  have e : V m c main_v8 = shapeCast S1x1024 (m ((c : Thread nD τ).loc main_arg1)) shapeCasts_S1024_S1x1024 := by entry_read; rfl
  refine Eq.trans ?_ ((congrFun e (ix2 0 d)).trans ?_)
  · blk_ext [iblk, (idx_in t).2.1]
  · pointwise

/-- The wide weights, as the host lays them out. -/
theorem wide_weights (k : Fin 1024) (e : Fin 10240) : V m c main_v3 (ix2 k e) = m ((c : Thread nD τ).loc main_arg2) (ix2 k (col e)) := by
  have h : V m c main_v3 = (truncf .bf16 (concatenate S1024x10240 1
      [⟨S1024x8192, extractStridedSlice S1024x8192 ![0, 0] (m ((c : Thread nD τ).loc main_arg2) : FVec Ideal S1024x10256 .f32) slices_S1024x10256_S1024x8192_0_0⟩,
        ⟨S1024x2048, extractStridedSlice S1024x2048 ![0, 8208] (m ((c : Thread nD τ).loc main_arg2) : FVec Ideal S1024x10256 .f32) slices_S1024x10256_S1024x2048_0_8208⟩]
      concatenates_S1024x8192_S1024x2048_S1024x10240_d1) bitsLt_bf16_f32 : FVec Ideal S1024x10240 .bf16) := by entry_read; rfl
  refine (congrFun h (ix2 k e)).trans ?_
  pointwise
  by_cases h : (e : ℕ) < 8192
  · rw [dif_pos h, col_left e h]
  · rw [dif_neg h, col_right e h]

/-- The narrow weights, as the host lays them out. -/
theorem narrow_weights (k : Fin 1024) (l : Fin 128) : V m c main_v6 (ix2 k l)
    = if h : (l : ℕ) < 16 then m ((c : Thread nD τ).loc main_arg2) (ix2 k (⟨8192 + l, by omega⟩ : Fin 10256)) else (0 : EReal) := by
  have h : V m c main_v6 = (truncf .bf16 (pad S1024x128 ![0, 0] ![0, 112] ![0, 0]
      (extractStridedSlice S1024x16 ![0, 8192] (m ((c : Thread nD τ).loc main_arg2) : FVec Ideal S1024x10256 .f32) slices_S1024x10256_S1024x16_0_8192)
      (sitofp .f32 (constantI S_ 32 0#32)) pads_S1024x16_S1024x128_000_01120 h_S_) bitsLt_bf16_f32 : FVec Ideal S1024x128 .bf16) := by entry_read; rfl
  refine (congrFun h (ix2 k l)).trans ?_
  pointwise
  rw [float_zero]

/-- The block of wide weights read at a grid point. -/
theorem blk2 (k d : Fin 1024) : iblk m c 2 t (ix2 k d) = m ((c : Thread nD τ).loc main_arg2) (ix2 k (col (lane t d))) := by
  refine Eq.trans ?_ (wide_weights m c k (lane t d))
  blk_ext [iblk, lane, (idx_in t).2.2.1]

/-- The narrow weights read at a grid point. -/
theorem blk3 (k : Fin 1024) (l : Fin 128) : iblk m c 3 t (ix2 k l)
    = if h : (l : ℕ) < 16 then m ((c : Thread nD τ).loc main_arg2) (ix2 k (⟨8192 + l, by omega⟩ : Fin 10256)) else (0 : EReal) := by
  refine Eq.trans ?_ (narrow_weights m c k l)
  blk_ext [iblk, (idx_in t).2.2.2.1]

/-- The first result the reference computes. -/
noncomputable abbrev G : S32768x10240.Idx → EReal :=
  Cert.Reference3Ideal.Read.val_main_v20 (F := Ideal) (m ((c : Thread nD τ).loc main_arg0)) (m ((c : Thread nD τ).loc main_arg1)) (m ((c : Thread nD τ).loc main_arg2))

/-- The second result the reference computes. -/
noncomputable abbrev G' : S32768x128.Idx → EReal :=
  Cert.Reference3Ideal.Read.val_main_v21 (F := Ideal) (m ((c : Thread nD τ).loc main_arg0)) (m ((c : Thread nD τ).loc main_arg1)) (m ((c : Thread nD τ).loc main_arg2))

/-- The wide block a grid point leaves, element by element, is the reference's. -/
theorem point_eq (r : Fin 2048) (d : Fin 1024) :
    k0_pay7 (F := Ideal) (k0_pay5 (iblk m c 0 t) (iblk m c 1 t)) (iblk m c 2 t) (k0_pay3 (iblk m c 0 t)) (ix2 r d) = G m c (ix2 (row t r) (lane t d)) := by
  refine (wide_apply _ _ _ r d).trans ?_
  simp only [blk0, blk1, blk2]
  exact (v20_apply _ _ _ (row t r) (lane t d)).symm

/-- The narrow block a grid point leaves, element by element, is the reference's. -/
theorem point_eq' (r : Fin 2048) (l : Fin 128) :
    k0_pay6 (F := Ideal) (iblk m c 0 t) (iblk m c 1 t) (iblk m c 3 t) (ix2 r l) = G' m c (ix2 (row t r) l) := by
  refine (narrow_apply _ _ _ r l).trans ?_
  simp only [blk0, blk1, blk3]
  exact (v21_apply _ _ _ (row t r) l).symm

/-- The place of an element of a wide block, in the block and in the array. -/
theorem place (y : ((cfg0.win 4).xblock (cfg0.grid.coords t)).Idx) :
    ∃ (r : Fin 2048) (d : Fin 1024), (cfg0.win 4).xinj (cfg0.grid.coords t) y = (ix2 r d : S2048x1024.Idx)
      ∧ ((cfg0.win 4).blk t).view.emb y = (ix2 (row t r) (lane t d) : S32768x10240.Idx) := by
  refine ⟨⟨y 0, (y 0).isLt⟩, ⟨y 1, (y 1).isLt⟩, ?_, ?_⟩
  · blk_ext [(idx_in t).2.2.2.2.1]
  · blk_ext [row, lane, (idx_in t).2.2.2.2.1]

/-- The place of an element of a narrow block, in the block and in the array. -/
theorem place' (y : ((cfg0.win 5).xblock (cfg0.grid.coords t)).Idx) :
    ∃ (r : Fin 2048) (l : Fin 128), (cfg0.win 5).xinj (cfg0.grid.coords t) y = (ix2 r l : S2048x128.Idx)
      ∧ ((cfg0.win 5).blk t).view.emb y = (ix2 (row t r) l : S32768x128.Idx) := by
  refine ⟨⟨y 0, (y 0).isLt⟩, ⟨y 1, (y 1).isLt⟩, ?_, ?_⟩
  · blk_ext [(idx_in t).2.2.2.2.2]
  · blk_ext [row, (idx_in t).2.2.2.2.2]

/-- What a grid point leaves in the staging buffer of the wide output, element by element, is the reference's. -/
theorem after_point (r : Fin 2048) (d : Fin 1024) : (dats m 0 c).after 4 t (ix2 r d : S2048x1024.Idx) = G m c (ix2 (row t r) (lane t d)) :=
  (congrFun (after_4 m c t) _).trans (point_eq m c t r d)

/-- What a grid point leaves in the staging buffer of the narrow output, element by element, is the reference's. -/
theorem after_point' (r : Fin 2048) (l : Fin 128) : (dats m 0 c).after 5 t (ix2 r l : S2048x128.Idx) = G' m c (ix2 (row t r) l) :=
  (congrFun (after_5 m c t) _).trans (point_eq' m c t r l)

/-- The wide array the kernel leaves is the reference's. -/
theorem arr_eq : (dats m 0 c).arrAt 4 cfg0.N = G m c := by
  refine (dats m 0 c).arrAt_eq_of_covers 4 _ (by decide +kernel) fun t hf y => ?_
  obtain ⟨r, d, h1, h2⟩ := place t y
  rw [cast_eq, h1, h2]
  exact after_point m c t r d

/-- The narrow array the kernel leaves is the reference's. -/
theorem arr_eq' : (dats m 0 c).arrAt 5 cfg0.N = G' m c := by
  refine (dats m 0 c).arrAt_eq_of_covers 5 _ (by decide +kernel) fun t hf y => ?_
  obtain ⟨r, l, h1, h2⟩ := place' t y
  rw [cast_eq, h1, h2]
  exact after_point' m c t r l

end Cert.InAsm
-- ==== Proof.lean ====
/-
  The claims: the frames, the four named constants, that the attention kernel's result is the reference's, and that the
  results of the output projection and of the input projection are.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Asm
public import proofs.«01_k».proof.Proof.OutAsm
public import proofs.«01_k».proof.Proof.InAsm
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Frame

@[expose] public section

noncomputable section

namespace Cert.Proof

open Idealize.ShloMosaic Idealize.SL.Sem

/-- The reference runs, its argument ends as it began, and no counter is left (it has none). -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (Cert.ReferenceIdeal.Value.run (F := Ideal) m g)

/-- The four constants of the kernel that stand for what they round: the scale of the scores and the three masks. -/
theorem preserves : Cert.preserves_Kernel_KernelIdeal :=
  ⟨IdealRules.named_const.statement Cert.KernelIdeal.κ "scale" .f32 0x3E0293EE#32 _ rfl,
   IdealRules.named_const.statement Cert.KernelIdeal.κ "gate_masked" .f32 0xFF61B1E6#32 _ rfl,
   IdealRules.named_const.statement Cert.KernelIdeal.κ "half_gate_masked" .f32 0xFEE1B1E6#32 _ rfl,
   IdealRules.named_const.statement Cert.KernelIdeal.κ "neg" .f32 0xF149F2CA#32 _ rfl⟩

/-- The kernel's result is the reference's. -/
theorem algebraic : Cert.algebraic_KernelIdeal_ReferenceIdeal_pre_qk_finite := by
  intro m g m' g' hpre hagree
  refine ⟨fun c => Cert.ReferenceIdeal.Read.val_main_v157 (F := Ideal) (m ((c.tc : Thread Cert.KernelIdeal.nD Cert.KernelIdeal.τ).loc Cert.KernelIdeal.main_arg0)), ?_, ?_⟩
  · exact (θ_run _ _ _).mono (fun r h c => ⟨(h c).1.trans (Cert.Asm.arr_eq m c (hpre c)), (h c).2⟩) (Cert.KernelIdeal.Value.run_blocks (F := Ideal) m g)
  · refine (θ_run _ _ _).mono (fun r h c => ⟨?_, (h c).2⟩) (Cert.ReferenceIdeal.Value.run (F := Ideal) m' g')
    refine (h c).1.trans ((Cert.ReferenceIdeal.Read.val_main_v157_eq _).trans ?_)
    exact congrArg (Cert.ReferenceIdeal.Read.val_main_v157 (F := Ideal)) (hagree c)

/-- The output projection's reference runs, its arguments end as they began, and no counter is left (it has none). -/
theorem frame_reference2 : Cert.quiescent_Reference2Ideal := fun m g _ =>
  (θ_run _ _ _).mono (fun r h => ⟨fun c => (h c).2, sem_eq_zero_of_no_sems (by decide) r.2⟩) (Cert.Reference2Ideal.Value.run (F := Ideal) m g)

/-- The output projection's result is the reference's. -/
theorem algebraic2 : Cert.algebraic_Kernel2Ideal_Reference2Ideal := by
  intro m g m' g' _ hagree
  refine ⟨fun c => Cert.OutAsm.G m c, ?_, ?_⟩
  · exact (θ_run _ _ _).mono (fun r h c => ⟨(h c).1.trans (Cert.OutAsm.arr_eq m c), (h c).2⟩) (Cert.Kernel2Ideal.Value.run_blocks (F := Ideal) m g)
  · refine (θ_run _ _ _).mono (fun r h c => ⟨?_, (h c).2⟩) (Cert.Reference2Ideal.Value.run (F := Ideal) m' g')
    refine (h c).1.trans ((Cert.Reference2Ideal.Read.val_main_v38_eq _ _).trans ?_)
    obtain ⟨h0, h1, h2, h3, h4, h5, h6, h7⟩ := hagree c
    rw [h0, h1, h2, h3, h4, h5, h6, h7]

/-- The input projection runs, its arguments end as they began, and no counter is left. -/
theorem frame_kernel3_ideal : Cert.quiescent_Kernel3Ideal := fun m g _ => Cert.InFrame.frame (F := Ideal) m g

/-- The input projection as printed and the ideal one have one body. -/
theorem bodies3 : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

/-- The input projection as printed runs as the ideal one does: the run is one, over any float values. -/
theorem frame_kernel3 : Cert.quiescent_Kernel3 := fun m g _ => by
  have e : Cert.Kernel3.defs (F := Bits) = Cert.Kernel3Ideal.defs (F := Bits) := congrArg (Pipeline.defs Cert.Kernel3.pcfgs) bodies3
  rw [e]
  exact (θ_run Cert.Kernel3Ideal.defs _ _).mono (fun _ h => h) (Cert.InFrame.frame (F := Bits) m g)

/-- The input projection's reference runs, its arguments end as they began, and no counter is left (it has none). -/
theorem frame_reference3 : Cert.quiescent_Reference3Ideal := fun m g _ =>
  (θ_run _ _ _).mono (fun r h => ⟨fun c => (h c).2.2, sem_eq_zero_of_no_sems (by decide) r.2⟩) (Cert.Reference3Ideal.Value.run (F := Ideal) m g)

/-- The input projection's two results are the reference's. -/
theorem algebraic3 : Cert.algebraic_Kernel3Ideal_Reference3Ideal := by
  intro m g m' g' _ hagree
  refine ⟨fun c => Cert.InAsm.G m c, fun c => Cert.InAsm.G' m c, ?_, ?_⟩
  · refine (θ_run Cert.Kernel3Ideal.defs _ _).mono (fun r h c => ⟨?_, ?_, h.2.1 c⟩)
      (θ_run_and (Cert.InFrame.run_main (F := Ideal) m g) (Cert.InFrame.frame (F := Ideal) m g))
    · exact ((h.1 c).1 4).trans (Cert.InAsm.arr_eq m c)
    · exact ((h.1 c).1 5).trans (Cert.InAsm.arr_eq' m c)
  · refine (θ_run _ _ _).mono (fun r h c => ⟨?_, ?_, (h c).2.2⟩) (Cert.Reference3Ideal.Value.run (F := Ideal) m' g')
    · refine (h c).1.trans ((Cert.Reference3Ideal.Read.val_main_v20_eq _ _ _).trans ?_)
      obtain ⟨h0, h1, h2⟩ := hagree c
      rw [h0, h1, h2]
    · refine (h c).2.1.trans ((Cert.Reference3Ideal.Read.val_main_v21_eq _ _ _).trans ?_)
      obtain ⟨h0, h1, h2⟩ := hagree c
      rw [h0, h1, h2]

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts, inferInstance,
   fun m g _ => Cert.Kernel.Gen.frame m g, fun m g _ => Cert.KernelIdeal.Gen.frame m g, fun m g _ => Cert.KernelIdeal.Gen.frame m g,
   fun m g _ => frame_reference m g, fun m g _ => frame_reference m g,
   fun m g _ => Cert.Kernel2.Gen.frame m g, fun m g _ => Cert.Kernel2Ideal.Gen.frame m g, frame_reference2,
   frame_kernel3, frame_kernel3_ideal, frame_reference3, preserves, algebraic, trivial, algebraic2, trivial, algebraic3⟩

end Cert.Proof

end
